-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x8192x1024 : Shape := ⟨3, ![2, 8192, 1024]⟩
abbrev S1x2x8192x256 : Shape := ⟨4, ![1, 2, 8192, 256]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1x1024x1024 : Shape := ⟨3, ![1, 1024, 1024]⟩
abbrev S1x256x1024 : Shape := ⟨3, ![1, 256, 1024]⟩
abbrev S1024 : Shape := ⟨1, ![1024]⟩
abbrev S1x512x1024 : Shape := ⟨3, ![1, 512, 1024]⟩
abbrev S1x1x512x256 : Shape := ⟨4, ![1, 1, 512, 256]⟩
abbrev S2x264x5632 : Shape := ⟨3, ![2, 264, 5632]⟩
abbrev S1024x5632 : Shape := ⟨2, ![1024, 5632]⟩
abbrev S2816x1024 : Shape := ⟨2, ![2816, 1024]⟩
abbrev S1024x1024 : Shape := ⟨2, ![1024, 1024]⟩
abbrev S256x1024 : Shape := ⟨2, ![256, 1024]⟩
abbrev S4x32x5632 : Shape := ⟨3, ![4, 32, 5632]⟩
abbrev S4x176x1024 : Shape := ⟨3, ![4, 176, 1024]⟩
abbrev S4 : Shape := ⟨1, ![4]⟩
abbrev S1 : Shape := ⟨1, ![1]⟩
abbrev S_ : Shape := ⟨0, ![]⟩
abbrev S1x32x5632 : Shape := ⟨3, ![1, 32, 5632]⟩
abbrev S32x5632 : Shape := ⟨2, ![32, 5632]⟩
abbrev S1x176x1024 : Shape := ⟨3, ![1, 176, 1024]⟩
abbrev S176x1024 : Shape := ⟨2, ![176, 1024]⟩
abbrev S1x128x1024 : Shape := ⟨3, ![1, 128, 1024]⟩
abbrev S128x1024 : Shape := ⟨2, ![128, 1024]⟩
abbrev S8x5632 : Shape := ⟨2, ![8, 5632]⟩
abbrev S1x8x5632 : Shape := ⟨3, ![1, 8, 5632]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S1x256x256 : Shape := ⟨3, ![1, 256, 256]⟩
abbrev S1x264x5632 : Shape := ⟨3, ![1, 264, 5632]⟩
abbrev S264x5632 : Shape := ⟨2, ![264, 5632]⟩
abbrev S1x1x5632 : Shape := ⟨3, ![1, 1, 5632]⟩
abbrev S256x5632 : Shape := ⟨2, ![256, 5632]⟩
abbrev S256x2816 : Shape := ⟨2, ![256, 2816]⟩
abbrev S1x1x256x256 : Shape := ⟨4, ![1, 1, 256, 256]⟩

abbrev nBuf : Space → Nat
  | .hbm => 13
  | .vmem => 18
  | .smem => 0
  | _ => 0

abbrev bufTy : (tb : Table) → Fin (tcTables nBuf tb) → BufTy
  | .hbm, ⟨0, _⟩ => ⟨S2x8192x1024, .f32⟩
  | .hbm, ⟨1, _⟩ => ⟨S1x2x8192x256, .f32⟩
  | .hbm, ⟨2, _⟩ => ⟨S1x1024, .f32⟩
  | .hbm, ⟨3, _⟩ => ⟨S1x1024x5632, .f32⟩
  | .hbm, ⟨4, _⟩ => ⟨S1x3x5632, .f32⟩
  | .hbm, ⟨5, _⟩ => ⟨S1x5632, .f32⟩
  | .hbm, ⟨6, _⟩ => ⟨S1x2816x1024, .f32⟩
  | .hbm, ⟨7, _⟩ => ⟨S1x1024, .f32⟩
  | .hbm, ⟨8, _⟩ => ⟨S1x1024x1024, .f32⟩
  | .hbm, ⟨9, _⟩ => ⟨S1x256x1024, .f32⟩
  | .hbm, ⟨10, _⟩ => ⟨S1024, .f32⟩
  | .hbm, ⟨11, _⟩ => ⟨S1x1024, .f32⟩
  | .hbm, ⟨12, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x512x256, .f32⟩
  | .local _ .vmem, ⟨3, _⟩ => ⟨S1x1x512x256, .f32⟩
  | .local _ .vmem, ⟨4, _⟩ => ⟨S1x1024, .f32⟩
  | .local _ .vmem, ⟨5, _⟩ => ⟨S1x3x5632, .f32⟩
  | .local _ .vmem, ⟨6, _⟩ => ⟨S1x5632, .f32⟩
  | .local _ .vmem, ⟨7, _⟩ => ⟨S1x1024, .f32⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | .local _ .vmem, ⟨11, _⟩ => ⟨S2x264x5632, .f32⟩
  | .local _ .vmem, ⟨12, _⟩ => ⟨S1024x5632, .bf16⟩
  | .local _ .vmem, ⟨13, _⟩ => ⟨S2816x1024, .bf16⟩
  | .local _ .vmem, ⟨14, _⟩ => ⟨S1024x1024, .bf16⟩
  | .local _ .vmem, ⟨15, _⟩ => ⟨S256x1024, .bf16⟩
  | .local _ .vmem, ⟨16, _⟩ => ⟨S4x32x5632, .f32⟩
  | .local _ .vmem, ⟨17, _⟩ => ⟨S4x176x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S2x8192x1024 : Shape := ⟨3, ![2, 8192, 1024]⟩
abbrev S1x2x8192x256 : Shape := ⟨4, ![1, 2, 8192, 256]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1x1024x1024 : Shape := ⟨3, ![1, 1024, 1024]⟩
abbrev S1x256x1024 : Shape := ⟨3, ![1, 256, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x5632 : Shape := ⟨2, ![1024, 5632]⟩
abbrev S2x8192x5632 : Shape := ⟨3, ![2, 8192, 5632]⟩
abbrev S2x8194x5632 : Shape := ⟨3, ![2, 8194, 5632]⟩
abbrev S5632 : Shape := ⟨1, ![5632]⟩
abbrev S1x1x5632 : Shape := ⟨3, ![1, 1, 5632]⟩
abbrev S2x8192x2816 : Shape := ⟨3, ![2, 8192, 2816]⟩
abbrev S2816x1024 : Shape := ⟨2, ![2816, 1024]⟩
abbrev S1024x1024 : Shape := ⟨2, ![1024, 1024]⟩
abbrev S2x8192x256 : Shape := ⟨3, ![2, 8192, 256]⟩
abbrev S256x1024 : Shape := ⟨2, ![256, 1024]⟩

abbrev nBuf : Space → Nat
  | .hbm => 128
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x2x8192x256, .f32⟩
  | .hbm, ⟨2, _⟩ => ⟨S1x1024, .f32⟩
  | .hbm, ⟨3, _⟩ => ⟨S1x1024x5632, .f32⟩
  | .hbm, ⟨4, _⟩ => ⟨S1x3x5632, .f32⟩
  | .hbm, ⟨5, _⟩ => ⟨S1x5632, .f32⟩
  | .hbm, ⟨6, _⟩ => ⟨S1x2816x1024, .f32⟩
  | .hbm, ⟨7, _⟩ => ⟨S1x1024, .f32⟩
  | .hbm, ⟨8, _⟩ => ⟨S1x1024x1024, .f32⟩
  | .hbm, ⟨9, _⟩ => ⟨S1x256x1024, .f32⟩
  | .hbm, ⟨10, _⟩ => ⟨S1024, .f32⟩
  | .hbm, ⟨11, _⟩ => ⟨S1024, .f32⟩
  | .hbm, ⟨12, _⟩ => ⟨S2x8192x1024, .f32⟩
  | .hbm, ⟨13, _⟩ => ⟨S_, .f32⟩
  | .hbm, ⟨14, _⟩ => ⟨S2x8192, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S2x8192x1, .f32⟩
  | .hbm, ⟨23, _⟩ => ⟨S2x8192x1024, .f32⟩
  | .hbm, ⟨24, _⟩ => ⟨S2x8192x1024, .f32⟩
  | .hbm, ⟨25, _⟩ => ⟨S1x1x1024, .f32⟩
  | .hbm, ⟨26, _⟩ => ⟨S2x8192x1024, .f32⟩
  | .hbm, ⟨27, _⟩ => ⟨S2x8192x1024, .f32⟩
  | .hbm, ⟨28, _⟩ => ⟨S1024x5632, .f32⟩
  | .hbm, ⟨29, _⟩ => ⟨S2x8192x5632, .f32⟩
  | .hbm, ⟨30, _⟩ => ⟨S_, .i32⟩
  | .hbm, ⟨31, _⟩ => ⟨S_, .f32⟩
  | .hbm, ⟨32, _⟩ => ⟨S2x8194x5632, .f32⟩
  | .hbm, ⟨33, _⟩ => ⟨S5632, .f32⟩
  | .hbm, ⟨34, _⟩ => ⟨S1x1x5632, .f32⟩
  | .hbm, ⟨35, _⟩ => ⟨S5632, .f32⟩
  | .hbm, ⟨36, _⟩ => ⟨S2x8192x5632, .f32⟩
  | .hbm, ⟨37, _⟩ => ⟨S1x1x5632, .f32⟩
  | .hbm, ⟨38, _⟩ => ⟨S2x8192x5632, .f32⟩
  | .hbm, ⟨39, _⟩ => ⟨S2x8192x5632, .f32⟩
  | .hbm, ⟨40, _⟩ => ⟨S1x1x5632, .f32⟩
  | .hbm, ⟨41, _⟩ => ⟨S2x8192x5632, .f32⟩
  | .hbm, ⟨42, _⟩ => ⟨S2x8192x5632, .f32⟩
  | .hbm, ⟨43, _⟩ => ⟨S1x1x5632, .f32⟩
  | .hbm, ⟨44, _⟩ => ⟨S5632, .f32⟩
  | .hbm, ⟨45, _⟩ => ⟨S2x8192x5632, .f32⟩
  | .hbm, ⟨46, _⟩ => ⟨S1x1x5632, .f32⟩
  | .hbm, ⟨47, _⟩ => ⟨S2x8192x5632, .f32⟩
  | .hbm, ⟨48, _⟩ => ⟨S2x8192x5632, .f32⟩
  | .hbm, ⟨49, _⟩ => ⟨S2x8192x5632, .f32⟩
  | .hbm, ⟨50, _⟩ => ⟨S1x1x5632, .f32⟩
  | .hbm, ⟨51, _⟩ => ⟨S5632, .f32⟩
  | .hbm, ⟨52, _⟩ => ⟨S2x8192x5632, .f32⟩
  | .hbm, ⟨53, _⟩ => ⟨S1x1x5632, .f32⟩
  | .hbm, ⟨54, _⟩ => ⟨S2x8192x5632, .f32⟩
  | .hbm, ⟨55, _⟩ => ⟨S2x8192x5632, .f32⟩
  | .hbm, ⟨56, _⟩ => ⟨S2x8192x5632, .f32⟩
  | .hbm, ⟨57, _⟩ => ⟨S2x8192x2816, .f32⟩
  | .hbm, ⟨58, _⟩ => ⟨S2x8192x2816, .f32⟩
  | .hbm, ⟨59, _⟩ => ⟨S2x8192x2816, .f32⟩
  | .hbm, ⟨60, _⟩ => ⟨S2x8192x2816, .f32⟩
  | .hbm, ⟨61, _⟩ => ⟨S_, .f32⟩
  | .hbm, ⟨62, _⟩ => ⟨S2x8192x2816, .f32⟩
  | .hbm, ⟨63, _⟩ => ⟨S2x8192x2816, .f32⟩
  | .hbm, ⟨64, _⟩ => ⟨S2x8192x2816, .f32⟩
  | .hbm, ⟨65, _⟩ => ⟨S_, .f32⟩
  | .hbm, ⟨66, _⟩ => ⟨S2x8192x2816, .f32⟩
  | .hbm, ⟨67, _⟩ => ⟨S2x8192x2816, .f32⟩
  | .hbm, ⟨68, _⟩ => ⟨S2x8192x2816, .f32⟩
  | .hbm, ⟨69, _⟩ => ⟨S_, .f32⟩
  | .hbm, ⟨70, _⟩ => ⟨S2x8192x2816, .f32⟩
  | .hbm, ⟨71, _⟩ => ⟨S2x8192x2816, .f32⟩
  | .hbm, ⟨72, _⟩ => ⟨S_, .f32⟩
  | .hbm, ⟨73, _⟩ => ⟨S2x8192x2816, .f32⟩
  | .hbm, ⟨74, _⟩ => ⟨S2x8192x2816, .f32⟩
  | .hbm, ⟨75, _⟩ => ⟨S2x8192x2816, .f32⟩
  | .hbm, ⟨76, _⟩ => ⟨S2x8192x2816, .f32⟩
  | .hbm, ⟨77, _⟩ => ⟨S2816x1024, .f32⟩
  | .hbm, ⟨78, _⟩ => ⟨S2x8192x1024, .f32⟩
  | .hbm, ⟨79, _⟩ => ⟨S2x8192x1024, .f32⟩
  | .hbm, ⟨80, _⟩ => ⟨S1024, .f32⟩
  | .hbm, ⟨81, _⟩ => ⟨S2x8192x1024, .f32⟩
  | .hbm, ⟨82, _⟩ => ⟨S_, .f32⟩
  | .hbm, ⟨83, _⟩ => ⟨S2x8192, .f32⟩
  | .hbm, ⟨84, _⟩ => ⟨S2x8192x1, .f32⟩
  | .hbm, ⟨85, _⟩ => ⟨S_, .f32⟩
  | .hbm, ⟨86, _⟩ => ⟨S2x8192x1, .f32⟩
  | .hbm, ⟨87, _⟩ => ⟨S2x8192x1, .f32⟩
  | .hbm, ⟨88, _⟩ => ⟨S_, .f32⟩
  | .hbm, ⟨89, _⟩ => ⟨S2x8192x1, .f32⟩
  | .hbm, ⟨90, _⟩ => ⟨S2x8192x1, .f32⟩
  | .hbm, ⟨91, _⟩ => ⟨S2x8192x1, .f32⟩
  | .hbm, ⟨92, _⟩ => ⟨S2x8192x1024, .f32⟩
  | .hbm, ⟨93, _⟩ => ⟨S2x8192x1024, .f32⟩
  | .hbm, ⟨94, _⟩ => ⟨S1x1x1024, .f32⟩
  | .hbm, ⟨95, _⟩ => ⟨S2x8192x1024, .f32⟩
  | .hbm, ⟨96, _⟩ => ⟨S2x8192x1024, .f32⟩
  | .hbm, ⟨97, _⟩ => ⟨S1024x1024, .f32⟩
  | .hbm, ⟨98, _⟩ => ⟨S2x8192x1024, .f32⟩
  | .hbm, ⟨99, _⟩ => ⟨S2x8192x1024, .f32⟩
  | .hbm, ⟨100, _⟩ => ⟨S2x8192x1024, .f32⟩
  | .hbm, ⟨101, _⟩ => ⟨S_, .f32⟩
  | .hbm, ⟨102, _⟩ => ⟨S2x8192x1024, .f32⟩
  | .hbm, ⟨103, _⟩ => ⟨S2x8192x1024, .f32⟩
  | .hbm, ⟨104, _⟩ => ⟨S_, .f32⟩
  | .hbm, ⟨105, _⟩ => ⟨S2x8192x1024, .f32⟩
  | .hbm, ⟨106, _⟩ => ⟨S2x8192x1024, .f32⟩
  | .hbm, ⟨107, _⟩ => ⟨S2x8192x256, .f32⟩
  | .hbm, ⟨108, _⟩ => ⟨S256x1024, .f32⟩
  | .hbm, ⟨109, _⟩ => ⟨S2x8192x1024, .f32⟩
  | .hbm, ⟨110, _⟩ => ⟨S2x8192x1024, .f32⟩
  | .hbm, ⟨111, _⟩ => ⟨S2x8192x1024, .f32⟩
  | .hbm, ⟨112, _⟩ => ⟨S2x8192x1024, .f32⟩
  | .hbm, ⟨113, _⟩ => ⟨S_, .f32⟩
  | .hbm, ⟨114, _⟩ => ⟨S2x8192, .f32⟩
  | .hbm, ⟨115, _⟩ => ⟨S2x8192x1, .f32⟩
  | .hbm, ⟨116, _⟩ => ⟨S_, .f32⟩
  | .hbm, ⟨117, _⟩ => ⟨S2x8192x1, .f32⟩
  | .hbm, ⟨118, _⟩ => ⟨S2x8192x1, .f32⟩
  | .hbm, ⟨119, _⟩ => ⟨S_, .f32⟩
  | .hbm, ⟨120, _⟩ => ⟨S2x8192x1, .f32⟩
  | .hbm, ⟨121, _⟩ => ⟨S2x8192x1, .f32⟩
  | .hbm, ⟨122, _⟩ => ⟨S2x8192x1, .f32⟩
  | .hbm, ⟨123, _⟩ => ⟨S2x8192x1024, .f32⟩
  | .hbm, ⟨124, _⟩ => ⟨S2x8192x1024, .f32⟩
  | .hbm, ⟨125, _⟩ => ⟨S1x1x1024, .f32⟩
  | .hbm, ⟨126, _⟩ => ⟨S2x8192x1024, .f32⟩
  | .hbm, ⟨127, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_call0_v0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_2 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_3 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_4 : Ref sig .tc := ⟨.hbm, 69, rfl⟩
abbrev main_v51 : Ref sig .tc := ⟨.hbm, 70, rfl⟩
abbrev main_v52 : Ref sig .tc := ⟨.hbm, 71, rfl⟩
abbrev main_cst_5 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_6 : Ref sig .tc := ⟨.hbm, 82, rfl⟩
abbrev main_v62 : Ref sig .tc := ⟨.hbm, 83, rfl⟩
abbrev main_v63 : Ref sig .tc := ⟨.hbm, 84, rfl⟩
abbrev main_cst_7 : Ref sig .tc := ⟨.hbm, 85, rfl⟩
abbrev main_v64 : Ref sig .tc := ⟨.hbm, 86, rfl⟩
abbrev main_v65 : Ref sig .tc := ⟨.hbm, 87, rfl⟩
abbrev main_cst_8 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_9 : Ref sig .tc := ⟨.hbm, 101, rfl⟩
abbrev main_v78 : Ref sig .tc := ⟨.hbm, 102, rfl⟩
abbrev main_v79 : Ref sig .tc := ⟨.hbm, 103, rfl⟩
abbrev main_cst_10 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_11 : Ref sig .tc := ⟨.hbm, 113, rfl⟩
abbrev main_v88 : Ref sig .tc := ⟨.hbm, 114, rfl⟩
abbrev main_v89 : Ref sig .tc := ⟨.hbm, 115, rfl⟩
abbrev main_cst_12 : Ref sig .tc := ⟨.hbm, 116, rfl⟩
abbrev main_v90 : Ref sig .tc := ⟨.hbm, 117, rfl⟩
abbrev main_v91 : Ref sig .tc := ⟨.hbm, 118, rfl⟩
abbrev main_cst_13 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩

abbrev nD : Nat := 1
abbrev τ : Topo := Topo.v7x

variable {F : FTy → Type} [FloatOps F]
-- ==== Proof.Setup.lean ====
module

public import proofs.«01_k».proof.Proof.Gen.Kernel.Frame
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-!
The set-up of the launch: the buffers and semaphores that the body gets at a point, when its two conditions hold, and the
arguments at the end of a run. The body moves data itself, so the launch is stated with its transfers.
-/

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- @main up to the call. -/
theorem hmain_dma (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The arguments are unchanged at the end of a run: those the pipeline stages are inputs, no window has the others. -/
theorem args_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine (θ_run defs _ _).mono (fun r h c => ?_) h
  have rest : ∀ b : Ref sig .tc, b ∈ Pipeline.restRefs sig spec0 → V m c b = m ((c : Thread nD τ).loc b) →
      r.2.mem ((c.tc : Thread nD τ).loc b) = m ((c.tc : Thread nD τ).loc b) := fun b hb hV => ((h c).2 b hb).trans hV
  exact ⟨(Pipeline.RDat.FramePost.arr_in h c 0 rfl).trans ((hA c 0).trans (V_main_arg0 m c)),
    (Pipeline.RDat.FramePost.arr_in h c 1 rfl).trans ((hA c 1).trans (V_main_arg1 m c)),
    (Pipeline.RDat.FramePost.arr_in h c 2 rfl).trans ((hA c 2).trans (V_main_arg2 m c)),
    rest main_arg3 (Pipeline.mem_restRefs_of main_arg3 (by decide) (by decide)) (V_main_arg3 m c),
    (Pipeline.RDat.FramePost.arr_in h c 3 rfl).trans ((hA c 3).trans (V_main_arg4 m c)),
    (Pipeline.RDat.FramePost.arr_in h c 4 rfl).trans ((hA c 4).trans (V_main_arg5 m c)),
    rest main_arg6 (Pipeline.mem_restRefs_of main_arg6 (by decide) (by decide)) (V_main_arg6 m c),
    (Pipeline.RDat.FramePost.arr_in h c 5 rfl).trans ((hA c 5).trans (V_main_arg7 m c)),
    rest main_arg8 (Pipeline.mem_restRefs_of main_arg8 (by decide) (by decide)) (V_main_arg8 m c),
    rest main_arg9 (Pipeline.mem_restRefs_of main_arg9 (by decide) (by decide)) (V_main_arg9 m c),
    rest main_arg10 (Pipeline.mem_restRefs_of main_arg10 (by decide) (by decide)) (V_main_arg10 m c)⟩

/-- The body's first condition: no point of either axis has passed. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point. -/
theorem hcond0_0 (t : Fin cfg0.N) : cond0_0 (grid0.coords t) ↔ t.val % 32 = 0 := by
  have ht : t.val < 32 := Nat.lt_of_lt_of_eq t.isLt N_0
  have e0 : (grid0.coords t 0).val = t.val / 16 % 2 := Pipeline.Grid.coords_val t 0 (by decide) rfl
  have e1 : (grid0.coords t 1).val = t.val / 1 % 16 := Pipeline.Grid.coords_val t 1 (by decide) rfl
  simp only [cond0_0, e0, e1]
  word_cmp

/-- The body's second condition: no tile of the sequence has passed. -/
abbrev cond0_1 (i : grid0.Coords) : Prop := (Scalar.cmpi .ne (Scalar.extui (Scalar.cmpi .eq (BitVec.ofNat 32 (i 1).val) 0#32)) 0#32) = 1#1

/-- It holds at a sequence's first point. -/
theorem hcond0_1 (t : Fin cfg0.N) : cond0_1 (grid0.coords t) ↔ t.val % 16 = 0 := by
  have ht : t.val < 32 := Nat.lt_of_lt_of_eq t.isLt N_0
  have e1 : (grid0.coords t 1).val = t.val / 1 % 16 := Pipeline.Grid.coords_val t 1 (by decide) rfl
  simp only [cond0_1, e1]
  word_cmp

/-! What the body is called with: the windows' buffers at a point, the scratch, the weights left in HBM. -/

abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3x5632 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x5632 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x1024 .f32 := win0_7.stage (cfg0.slots t 7)
abbrev hs0_7 (t : Fin cfg0.N) : (ms0_7 t).IsWhole := hstage0_7 ((cfg0.slots t 7).cast nbuf0_7)

abbrev scM0_0 : Memref sig .tc .vmem S2x264x5632 .f32 := Memref.whole cc0_scratch0
abbrev scM0_1 : Memref sig .tc .vmem S1024x5632 .bf16 := Memref.whole cc0_scratch1
abbrev scM0_2 : Memref sig .tc .vmem S2816x1024 .bf16 := Memref.whole cc0_scratch2
abbrev scM0_3 : Memref sig .tc .vmem S1024x1024 .bf16 := Memref.whole cc0_scratch3
abbrev scM0_4 : Memref sig .tc .vmem S256x1024 .bf16 := Memref.whole cc0_scratch4
abbrev scM0_5 : Memref sig .tc .vmem S4x32x5632 .f32 := Memref.whole cc0_scratch5
abbrev scM0_6 : Memref sig .tc .vmem S4x176x1024 .f32 := Memref.whole cc0_scratch6
abbrev hbM0_0 : Memref sig .tc .hbm S1x1024x5632 .f32 := Memref.whole main_arg3
abbrev hbM0_1 : Memref sig .tc .hbm S1x2816x1024 .f32 := Memref.whole main_arg6
abbrev hbM0_2 : Memref sig .tc .hbm S1x1024x1024 .f32 := Memref.whole main_arg8
abbrev hbM0_3 : Memref sig .tc .hbm S1x256x1024 .f32 := Memref.whole main_arg9

/-- The contents of a buffer, and the buffer held at them. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The ring's semaphores. -/
abbrev osem0 : Fin 4 → SemLoc sig := fun j => (![SemLoc.dma 11, SemLoc.dma 12, SemLoc.dma 13, SemLoc.dma 14] : Fin 4 → SemLoc sig) j

theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0) := by
  rw [Pipeline.ownSems0_eq_of_list c osem0 [0, 1, 2, 3] (by decide) (by decide)]; rfl

/-- The weights in HBM. -/
def H0 : Finset (Ref sig .tc) := {main_arg3, main_arg6, main_arg8, main_arg9}

theorem H0_sub : H0 ⊆ Pipeline.restRefs sig spec0 := by decide

theorem hbmPts0_eq (c : Dev nD) :
    (bigSep H0 (fun b => ((c : Thread nD τ).loc b) ↦{fullShare} V m c b) : sProp 𝕄) = iprop(hbPt0 c hbM0_0 (V m c main_arg3) ∗ hbPt0 c hbM0_1 (V m c main_arg6) ∗ hbPt0 c hbM0_2 (V m c main_arg8) ∗ hbPt0 c hbM0_3 (V m c main_arg9)) := by
  rw [BI.bigSep_eq_bigSepL_of_eq [main_arg3, main_arg6, main_arg8, main_arg9] (by decide) (by decide)]; rfl

/-- What a point has beside its windows, one by one: scratch, the generator's register, the semaphores, the weights. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r) ∗ iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0) ∗ iprop(hbPt0 c hbM0_0 (V m c main_arg3) ∗ hbPt0 c hbM0_1 (V m c main_arg6) ∗ hbPt0 c hbM0_2 (V m c main_arg8) ∗ hbPt0 c hbM0_3 (V m c main_arg9))) := by
  rw [Pipeline.ΦD_eq, scopedRest0_eq, ownSems00_eq, hbmPts0_eq]; simp only [scM0_0, scM0_1, scM0_2, scM0_3, scM0_4, scM0_5, scM0_6, owns_whole]; try rfl

end Cert.Kernel.Gen

end
-- ==== Proof.Split.lean ====
module

public import proofs.«01_k».proof.Proof.Setup

@[expose] public section

set_option maxRecDepth 65536

noncomputable section

namespace Cert.Kernel.Gen

open Idealize.ShloMosaic Idealize.ShloMosaic.TcCoe Idealize.ShloMosaic.Tactic
open Idealize.SL.Sem

variable {F : FTy → Type} [FloatOps F]

/-!
The body of the FFN kernel, cut in the three phases it runs through at a grid point:

* `weightPhase` copies the four weight matrices from HBM, chunk by chunk through two double-buffered staging arrays,
  and keeps them in bf16 in the scratch (first point only);
* `haloPhase` clears the eight rows above the first slab (first point of a sequence only);
* `tailPhase` computes: the up-projection of two slabs of 256 rows, the causal convolution and the gate, the
  down-projection, the per-layer-embedding mix and the last normalisation.

`body_split` says that the printed body is these three, the first two under their conditions.
-/

/-- The copies of the weights into the scratch. -/
noncomputable def weightPhase (i : grid0.Coords) (arg2 : Memref sig .tc .vmem S1x512x1024 .f32) (harg2 : arg2.IsWhole) (arg3 : Memref sig .tc .vmem S1x1x512x256 .f32) (harg3 : arg3.IsWhole) (arg4 : Memref sig .tc .vmem S1x1024 .f32) (harg4 : arg4.IsWhole) (arg5 : Memref sig .tc .hbm S1x1024x5632 .f32) (harg5 : arg5.IsWhole) (arg6 : Memref sig .tc .vmem S1x3x5632 .f32) (harg6 : arg6.IsWhole) (arg7 : Memref sig .tc .vmem S1x5632 .f32) (harg7 : arg7.IsWhole) (arg8 : Memref sig .tc .hbm S1x2816x1024 .f32) (harg8 : arg8.IsWhole) (arg9 : Memref sig .tc .vmem S1x1024 .f32) (harg9 : arg9.IsWhole) (arg10 : Memref sig .tc .hbm S1x1024x1024 .f32) (harg10 : arg10.IsWhole) (arg11 : Memref sig .tc .hbm S1x256x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S2x264x5632 .f32) (harg14 : arg14.IsWhole) (arg15 : Memref sig .tc .vmem S1024x5632 .bf16) (harg15 : arg15.IsWhole) (arg16 : Memref sig .tc .vmem S2816x1024 .bf16) (harg16 : arg16.IsWhole) (arg17 : Memref sig .tc .vmem S1024x1024 .bf16) (harg17 : arg17.IsWhole) (arg18 : Memref sig .tc .vmem S256x1024 .bf16) (harg18 : arg18.IsWhole) (arg19 : Memref sig .tc .vmem S4x32x5632 .f32) (harg19 : arg19.IsWhole) (arg20 : Memref sig .tc .vmem S4x176x1024 .f32) (harg20 : arg20.IsWhole) (arg21 : DmaSems sig S4) :
    Prog (TpuEff nD τ sig (Elt F) Λ₀ .tc) PUnit := do
  k0_part45 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21
  let v1598 : Vec F S1x128x1024 .f32 ← Prog.lift (.load arg20 (Rect.unit (s := S4x176x1024) ![1, 0, 0] S1x128x1024.size inb_S4x176x1024_S1x128x1024_1_0_0).toLoadRect (View.loadsAt_vmem h_S1x128x1024))
  let v1601 : Vec F S128x1024 .bf16 ← Prog.lift (.load arg18 (Rect.unit (s := S256x1024) ![128, 0] S128x1024.size inb_S256x1024_S128x1024_128_0).toLoadRect (View.loadsAt_vmem h_S128x1024))
  Prog.lift (.store arg18 (Rect.unit (s := S256x1024) ![128, 0] S128x1024.size inb_S256x1024_S128x1024_128_0) (k0_pay64 v1598) Finset.univ (View.stores_vmem h_S128x1024 (harg18.storeExact_slice rfl _ packedbf16_S256x1024_S128x1024_128_0) (fun _ => rfl)) (.inl rfl))
  pure ⟨⟩

/-- The eight rows above the first slab, cleared. -/
noncomputable def haloPhase (i : grid0.Coords) (arg2 : Memref sig .tc .vmem S1x512x1024 .f32) (harg2 : arg2.IsWhole) (arg3 : Memref sig .tc .vmem S1x1x512x256 .f32) (harg3 : arg3.IsWhole) (arg4 : Memref sig .tc .vmem S1x1024 .f32) (harg4 : arg4.IsWhole) (arg5 : Memref sig .tc .hbm S1x1024x5632 .f32) (harg5 : arg5.IsWhole) (arg6 : Memref sig .tc .vmem S1x3x5632 .f32) (harg6 : arg6.IsWhole) (arg7 : Memref sig .tc .vmem S1x5632 .f32) (harg7 : arg7.IsWhole) (arg8 : Memref sig .tc .hbm S1x2816x1024 .f32) (harg8 : arg8.IsWhole) (arg9 : Memref sig .tc .vmem S1x1024 .f32) (harg9 : arg9.IsWhole) (arg10 : Memref sig .tc .hbm S1x1024x1024 .f32) (harg10 : arg10.IsWhole) (arg11 : Memref sig .tc .hbm S1x256x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S2x264x5632 .f32) (harg14 : arg14.IsWhole) (arg15 : Memref sig .tc .vmem S1024x5632 .bf16) (harg15 : arg15.IsWhole) (arg16 : Memref sig .tc .vmem S2816x1024 .bf16) (harg16 : arg16.IsWhole) (arg17 : Memref sig .tc .vmem S1024x1024 .bf16) (harg17 : arg17.IsWhole) (arg18 : Memref sig .tc .vmem S256x1024 .bf16) (harg18 : arg18.IsWhole) (arg19 : Memref sig .tc .vmem S4x32x5632 .f32) (harg19 : arg19.IsWhole) (arg20 : Memref sig .tc .vmem S4x176x1024 .f32) (harg20 : arg20.IsWhole) (arg21 : DmaSems sig S4) :
    Prog (TpuEff nD τ sig (Elt F) Λ₀ .tc) PUnit := do
  let v445 : Vec F S1x8x5632 .f32 ← Prog.lift (.load arg14 (Rect.unit (s := S2x264x5632) ![0, 0, 0] S1x8x5632.size inb_S2x264x5632_S1x8x5632_0_0_0).toLoadRect (View.loadsAt_vmem h_S1x8x5632))
  Prog.lift (.store arg14 (Rect.unit (s := S2x264x5632) ![0, 0, 0] S1x8x5632.size inb_S2x264x5632_S1x8x5632_0_0_0) (k0_pay65 (F := F)) Finset.univ (View.stores_vmem_bits_univ h_S1x8x5632 rfl) (.inl rfl))
  pure ⟨⟩

/-- The first slab's rows, normalised, and the first of the eleven column blocks of the up-projection. -/
noncomputable def firstBlock (i : grid0.Coords) (arg2 : Memref sig .tc .vmem S1x512x1024 .f32) (harg2 : arg2.IsWhole) (arg3 : Memref sig .tc .vmem S1x1x512x256 .f32) (harg3 : arg3.IsWhole) (arg4 : Memref sig .tc .vmem S1x1024 .f32) (harg4 : arg4.IsWhole) (arg5 : Memref sig .tc .hbm S1x1024x5632 .f32) (harg5 : arg5.IsWhole) (arg6 : Memref sig .tc .vmem S1x3x5632 .f32) (harg6 : arg6.IsWhole) (arg7 : Memref sig .tc .vmem S1x5632 .f32) (harg7 : arg7.IsWhole) (arg8 : Memref sig .tc .hbm S1x2816x1024 .f32) (harg8 : arg8.IsWhole) (arg9 : Memref sig .tc .vmem S1x1024 .f32) (harg9 : arg9.IsWhole) (arg10 : Memref sig .tc .hbm S1x1024x1024 .f32) (harg10 : arg10.IsWhole) (arg11 : Memref sig .tc .hbm S1x256x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S2x264x5632 .f32) (harg14 : arg14.IsWhole) (arg15 : Memref sig .tc .vmem S1024x5632 .bf16) (harg15 : arg15.IsWhole) (arg16 : Memref sig .tc .vmem S2816x1024 .bf16) (harg16 : arg16.IsWhole) (arg17 : Memref sig .tc .vmem S1024x1024 .bf16) (harg17 : arg17.IsWhole) (arg18 : Memref sig .tc .vmem S256x1024 .bf16) (harg18 : arg18.IsWhole) (arg19 : Memref sig .tc .vmem S4x32x5632 .f32) (harg19 : arg19.IsWhole) (arg20 : Memref sig .tc .vmem S4x176x1024 .f32) (harg20 : arg20.IsWhole) (arg21 : DmaSems sig S4) :
    Prog (TpuEff nD τ sig (Elt F) Λ₀ .tc) (Σ' (v23 : FVec F S256x1024 .bf16), FVec F S256x256 .f32) := do
  let v8 : Vec F S1x256x1024 .f32 ← Prog.lift (.load arg2 (Rect.unit (s := S1x512x1024) ![0, 0, 0] S1x256x1024.size inb_S1x512x1024_S1x256x1024_0_0_0).toLoadRect (View.loadsAt_vmem h_S1x256x1024))
  let v10 : Vec F S1x1024 .f32 ← Prog.lift (.load arg4 (Rect.unit (s := S1x1024) ![0, 0] S1x1024.size inb_S1x1024_S1x1024_0_0).toLoadRect (View.loadsAt_vmem h_S1x1024))
  let v24 : Vec F S1024x256 .bf16 ← Prog.lift (.load arg15 (Rect.unit (s := S1024x5632) ![0, 0] S1024x256.size inb_S1024x5632_S1024x256_0_0).toLoadRect (View.loadsAt_vmem h_S1024x256))
  let v26 : Vec F S1x256x256 .f32 ← Prog.lift (.load arg14 (Rect.unit (s := S2x264x5632) ![0, 8, 0] S1x256x256.size inb_S2x264x5632_S1x256x256_0_8_0).toLoadRect (View.loadsAt_vmem h_S1x256x256))
  Prog.lift (.store arg14 (Rect.unit (s := S2x264x5632) ![0, 8, 0] S1x256x256.size inb_S2x264x5632_S1x256x256_0_8_0) (k0_pay67 v8 v10 v24) Finset.univ (View.stores_vmem_bits_univ h_S1x256x256 rfl) (.inl rfl))
  let v29 : Vec F S1024x256 .bf16 ← Prog.lift (.load arg15 (Rect.unit (s := S1024x5632) ![0, 2816] S1024x256.size inb_S1024x5632_S1024x256_0_2816).toLoadRect (View.loadsAt_vmem h_S1024x256))
  pure ⟨k0_pay66 v8 v10, k0_pay68 v8 v10 v29⟩

/-- Everything after the first column block. -/
noncomputable def otherBlocks (i : grid0.Coords) (arg2 : Memref sig .tc .vmem S1x512x1024 .f32) (harg2 : arg2.IsWhole) (arg3 : Memref sig .tc .vmem S1x1x512x256 .f32) (harg3 : arg3.IsWhole) (arg4 : Memref sig .tc .vmem S1x1024 .f32) (harg4 : arg4.IsWhole) (arg5 : Memref sig .tc .hbm S1x1024x5632 .f32) (harg5 : arg5.IsWhole) (arg6 : Memref sig .tc .vmem S1x3x5632 .f32) (harg6 : arg6.IsWhole) (arg7 : Memref sig .tc .vmem S1x5632 .f32) (harg7 : arg7.IsWhole) (arg8 : Memref sig .tc .hbm S1x2816x1024 .f32) (harg8 : arg8.IsWhole) (arg9 : Memref sig .tc .vmem S1x1024 .f32) (harg9 : arg9.IsWhole) (arg10 : Memref sig .tc .hbm S1x1024x1024 .f32) (harg10 : arg10.IsWhole) (arg11 : Memref sig .tc .hbm S1x256x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S2x264x5632 .f32) (harg14 : arg14.IsWhole) (arg15 : Memref sig .tc .vmem S1024x5632 .bf16) (harg15 : arg15.IsWhole) (arg16 : Memref sig .tc .vmem S2816x1024 .bf16) (harg16 : arg16.IsWhole) (arg17 : Memref sig .tc .vmem S1024x1024 .bf16) (harg17 : arg17.IsWhole) (arg18 : Memref sig .tc .vmem S256x1024 .bf16) (harg18 : arg18.IsWhole) (arg19 : Memref sig .tc .vmem S4x32x5632 .f32) (harg19 : arg19.IsWhole) (arg20 : Memref sig .tc .vmem S4x176x1024 .f32) (harg20 : arg20.IsWhole) (arg21 : DmaSems sig S4) (p : (Σ' (v23 : FVec F S256x1024 .bf16), FVec F S256x256 .f32)) :
    Prog (TpuEff nD τ sig (Elt F) Λ₀ .tc) PUnit := do
  let v440 : FVec F S256x1024 .f32 ← do
    let ⟨v23, v30⟩ := p
    let v55 : FVec F S256x256 .f32 ← k0_part47 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v23 v30
    let v80 : FVec F S256x256 .f32 ← k0_part48 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v23 v55
    let v105 : FVec F S256x256 .f32 ← k0_part49 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v23 v80
    let v130 : FVec F S256x256 .f32 ← k0_part50 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v23 v105
    let ⟨v149, v161⟩ : Σ' (v149 : FVec F S256x1024 .bf16), FVec F S256x256 .f32 ← k0_part51 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v130
    let v186 : FVec F S256x256 .f32 ← k0_part52 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v149 v161
    let v211 : FVec F S256x256 .f32 ← k0_part53 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v149 v186
    let v236 : FVec F S256x256 .f32 ← k0_part54 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v149 v211
    let v261 : FVec F S264x5632 .f32 ← k0_part55 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v149 v236
    let ⟨v300, v302⟩ : Σ' (v300 : FVec F S256x2816 .bf16), FVec F S8x5632 .f32 ← k0_part56 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v261
    let ⟨v310, v334, v335, v337⟩ : Σ' (v310 : FVec F S256x1024 .f32) (v334 : FVec F S256x5632 .f32) (v335 : FVec F S256x2816 .f32), FVec F S256x2816 .f32 ← k0_part57 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v300 v302
    let ⟨v361, v375⟩ : Σ' (v361 : FVec F S256x1024 .f32), FVec F S256x1024 .bf16 ← k0_part58 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v310 v334 v335 v337
    let ⟨v403, v411⟩ : Σ' (v403 : Vec F S1x1024 .f32), FVec F S256x1 .f32 ← k0_part59 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v310 v361 v375
    let v417 : Vec F S1024x1024 .bf16 ← Prog.lift (.load arg17 (Rect.unit (s := S1024x1024) ![0, 0] S1024x1024.size inb_S1024x1024_S1024x1024_0_0).toLoadRect (View.loadsAt_vmem h_S1024x1024))
    let v420 : Vec F S1x1x256x256 .f32 ← Prog.lift (.load arg3 (Rect.unit (s := S1x1x512x256) ![0, 0, 256, 0] S1x1x256x256.size inb_S1x1x512x256_S1x1x256x256_0_0_256_0).toLoadRect (View.loadsAt_vmem h_S1x1x256x256))
    let v423 : Vec F S256x1024 .bf16 ← Prog.lift (.load arg18 (Rect.unit (s := S256x1024) ![0, 0] S256x1024.size inb_S256x1024_S256x1024_0_0).toLoadRect (View.loadsAt_vmem h_S256x1024))
    let v427 : Vec F S1x1024 .f32 ← Prog.lift (.load arg12 (Rect.unit (s := S1x1024) ![0, 0] S1x1024.size inb_S1x1024_S1x1024_0_0).toLoadRect (View.loadsAt_vmem h_S1x1024))
    pure (k0_pay134 v361 v403 v411 v417 v420 v423 v427)
  let v441 : Vec F S1x256x1024 .f32 ← Prog.lift (.load arg13 (Rect.unit (s := S1x512x1024) ![0, 256, 0] S1x256x1024.size inb_S1x512x1024_S1x256x1024_0_256_0).toLoadRect (View.loadsAt_vmem h_S1x256x1024))
  Prog.lift (.store arg13 (Rect.unit (s := S1x512x1024) ![0, 256, 0] S1x256x1024.size inb_S1x512x1024_S1x256x1024_0_256_0) (k0_pay1 v440) Finset.univ (View.stores_vmem_bits_univ h_S1x256x1024 rfl) (.inl rfl))
  pure ⟨⟩

/-- The computation of one grid point. -/
noncomputable def tailPhase (i : grid0.Coords) (arg2 : Memref sig .tc .vmem S1x512x1024 .f32) (harg2 : arg2.IsWhole) (arg3 : Memref sig .tc .vmem S1x1x512x256 .f32) (harg3 : arg3.IsWhole) (arg4 : Memref sig .tc .vmem S1x1024 .f32) (harg4 : arg4.IsWhole) (arg5 : Memref sig .tc .hbm S1x1024x5632 .f32) (harg5 : arg5.IsWhole) (arg6 : Memref sig .tc .vmem S1x3x5632 .f32) (harg6 : arg6.IsWhole) (arg7 : Memref sig .tc .vmem S1x5632 .f32) (harg7 : arg7.IsWhole) (arg8 : Memref sig .tc .hbm S1x2816x1024 .f32) (harg8 : arg8.IsWhole) (arg9 : Memref sig .tc .vmem S1x1024 .f32) (harg9 : arg9.IsWhole) (arg10 : Memref sig .tc .hbm S1x1024x1024 .f32) (harg10 : arg10.IsWhole) (arg11 : Memref sig .tc .hbm S1x256x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S2x264x5632 .f32) (harg14 : arg14.IsWhole) (arg15 : Memref sig .tc .vmem S1024x5632 .bf16) (harg15 : arg15.IsWhole) (arg16 : Memref sig .tc .vmem S2816x1024 .bf16) (harg16 : arg16.IsWhole) (arg17 : Memref sig .tc .vmem S1024x1024 .bf16) (harg17 : arg17.IsWhole) (arg18 : Memref sig .tc .vmem S256x1024 .bf16) (harg18 : arg18.IsWhole) (arg19 : Memref sig .tc .vmem S4x32x5632 .f32) (harg19 : arg19.IsWhole) (arg20 : Memref sig .tc .vmem S4x176x1024 .f32) (harg20 : arg20.IsWhole) (arg21 : DmaSems sig S4) :
    Prog (TpuEff nD τ sig (Elt F) Λ₀ .tc) PUnit := do
  let p ← firstBlock i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21
  otherBlocks i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 p

theorem body_split (i : grid0.Coords) (arg2 : Memref sig .tc .vmem S1x512x1024 .f32) (harg2 : arg2.IsWhole) (arg3 : Memref sig .tc .vmem S1x1x512x256 .f32) (harg3 : arg3.IsWhole) (arg4 : Memref sig .tc .vmem S1x1024 .f32) (harg4 : arg4.IsWhole) (arg5 : Memref sig .tc .hbm S1x1024x5632 .f32) (harg5 : arg5.IsWhole) (arg6 : Memref sig .tc .vmem S1x3x5632 .f32) (harg6 : arg6.IsWhole) (arg7 : Memref sig .tc .vmem S1x5632 .f32) (harg7 : arg7.IsWhole) (arg8 : Memref sig .tc .hbm S1x2816x1024 .f32) (harg8 : arg8.IsWhole) (arg9 : Memref sig .tc .vmem S1x1024 .f32) (harg9 : arg9.IsWhole) (arg10 : Memref sig .tc .hbm S1x1024x1024 .f32) (harg10 : arg10.IsWhole) (arg11 : Memref sig .tc .hbm S1x256x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S2x264x5632 .f32) (harg14 : arg14.IsWhole) (arg15 : Memref sig .tc .vmem S1024x5632 .bf16) (harg15 : arg15.IsWhole) (arg16 : Memref sig .tc .vmem S2816x1024 .bf16) (harg16 : arg16.IsWhole) (arg17 : Memref sig .tc .vmem S1024x1024 .bf16) (harg17 : arg17.IsWhole) (arg18 : Memref sig .tc .vmem S256x1024 .bf16) (harg18 : arg18.IsWhole) (arg19 : Memref sig .tc .vmem S4x32x5632 .f32) (harg19 : arg19.IsWhole) (arg20 : Memref sig .tc .vmem S4x176x1024 .f32) (harg20 : arg20.IsWhole) (arg21 : DmaSems sig S4) :
    cc0_ffn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21
      = (if cond0_0 i then weightPhase i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 else pure ⟨⟩) >>= fun _ =>
        (if cond0_1 i then haloPhase i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 else pure ⟨⟩) >>= fun _ =>
          tailPhase i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 := by
  simp only [cc0_ffn_eq_skeleton]
  unfold cc0_ffn_skel
  simp only [k0_part60_eq_skeleton]
  unfold k0_part60_skel
  simp only [k0_part46_eq_skeleton]
  unfold k0_part46_skel tailPhase firstBlock otherBlocks
  by_cases h0 : cond0_0 i <;> by_cases h1 : cond0_1 i <;>
    simp only [cond0_0, cond0_1] at h0 h1 <;>
    simp only [cond0_0, cond0_1, h0, h1, ↓reduceDIte, ↓reduceIte, weightPhase, haloPhase, bind_assoc, pure_bind]

end Cert.Kernel.Gen

end
-- ==== Proof.Compute.lean ====
module

public import proofs.«01_k».proof.Proof.Split

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 6464000 in
/-- The computation of one grid point, as stores: `tailPhase` run on whole buffers, the inputs' and the weights' at
    contents they keep, the output's at anything and the slabs at `slabs`. The stores into the output block and into
    the slabs, last first, are what the run finds. -/
noncomputable def compute_run (c : Dev nD) (i : grid0.Coords) (arg2 : Memref sig .tc .vmem S1x512x1024 .f32) (harg2 : arg2.IsWhole) (arg3 : Memref sig .tc .vmem S1x1x512x256 .f32) (harg3 : arg3.IsWhole) (arg4 : Memref sig .tc .vmem S1x1024 .f32) (harg4 : arg4.IsWhole) (arg6 : Memref sig .tc .vmem S1x3x5632 .f32) (harg6 : arg6.IsWhole) (arg7 : Memref sig .tc .vmem S1x5632 .f32) (harg7 : arg7.IsWhole) (arg9 : Memref sig .tc .vmem S1x1024 .f32) (harg9 : arg9.IsWhole) (arg12 : Memref sig .tc .vmem S1x1024 .f32) (harg12 : arg12.IsWhole) (arg13 : Memref sig .tc .vmem S1x512x1024 .f32) (harg13 : arg13.IsWhole) (arg14 : Memref sig .tc .vmem S2x264x5632 .f32) (harg14 : arg14.IsWhole) (arg15 : Memref sig .tc .vmem S1024x5632 .bf16) (harg15 : arg15.IsWhole) (arg16 : Memref sig .tc .vmem S2816x1024 .bf16) (harg16 : arg16.IsWhole) (arg17 : Memref sig .tc .vmem S1024x1024 .bf16) (harg17 : arg17.IsWhole) (arg18 : Memref sig .tc .vmem S256x1024 .bf16) (harg18 : arg18.IsWhole) (arg19 : Memref sig .tc .vmem S4x32x5632 .f32) (harg19 : arg19.IsWhole) (arg20 : Memref sig .tc .vmem S4x176x1024 .f32) (harg20 : arg20.IsWhole)
    (x : Vec F S1x512x1024 .f32) (p : Vec F S1x1x512x256 .f32) (gf : Vec F S1x1024 .f32) (cw : Vec F S1x3x5632 .f32) (cb : Vec F S1x5632 .f32) (gp : Vec F S1x1024 .f32) (gl : Vec F S1x1024 .f32) (slabs : Vec F S2x264x5632 .f32) (wu : Vec F S1024x5632 .bf16) (wd : Vec F S2816x1024 .bf16) (wg : Vec F S1024x1024 .bf16) (wj : Vec F S256x1024 .bf16) :
    Σ' (LO : List (View.Piece (Elt F) S1x512x1024 .f32)), { LS : List (View.Piece (Elt F) S2x264x5632 .f32) //
      ∀ (K : PUnit → sProp 𝕄),
        iprop(owns (c : Thread nD τ) arg2 fullShare x ∗ owns (c : Thread nD τ) arg3 fullShare p ∗ owns (c : Thread nD τ) arg4 fullShare gf ∗ owns (c : Thread nD τ) arg6 fullShare cw ∗ owns (c : Thread nD τ) arg7 fullShare cb ∗ owns (c : Thread nD τ) arg9 fullShare gp ∗ owns (c : Thread nD τ) arg12 fullShare gl ∗ owns (c : Thread nD τ) arg15 fullShare wu ∗ owns (c : Thread nD τ) arg16 fullShare wd ∗ owns (c : Thread nD τ) arg17 fullShare wg ∗ owns (c : Thread nD τ) arg18 fullShare wj ∗ (∃ d, owns (c : Thread nD τ) arg13 fullShare d) ∗ owns (c : Thread nD τ) arg14 fullShare slabs
            ∗ (iprop(owns (c : Thread nD τ) arg2 fullShare x ∗ owns (c : Thread nD τ) arg3 fullShare p ∗ owns (c : Thread nD τ) arg4 fullShare gf ∗ owns (c : Thread nD τ) arg6 fullShare cw ∗ owns (c : Thread nD τ) arg7 fullShare cb ∗ owns (c : Thread nD τ) arg9 fullShare gp ∗ owns (c : Thread nD τ) arg12 fullShare gl ∗ owns (c : Thread nD τ) arg15 fullShare wu ∗ owns (c : Thread nD τ) arg16 fullShare wd ∗ owns (c : Thread nD τ) arg17 fullShare wg ∗ owns (c : Thread nD τ) arg18 fullShare wj ∗ (∃ f, (arg13.view.loc (c : Thread nD τ) ↦[arg13.view.set]{fullShare} arg13.view.writes (Elt F) f LO))
                ∗ (arg14.view.loc (c : Thread nD τ) ↦[arg14.view.set]{fullShare} arg14.view.writes (Elt F) (harg14.unread slabs) LS)) -∗ K ⟨⟩))
          ⊢ wp frame (wpE (defs₀ (F := F)) Variants.none c none) Set.univ (tailPhase i arg2 harg2 arg3 harg3 arg4 harg4 (Memref.whole main_arg3) (Memref.isWhole_whole _) arg6 harg6 arg7 harg7 (Memref.whole main_arg6) (Memref.isWhole_whole _) arg9 harg9 (Memref.whole main_arg8) (Memref.isWhole_whole _) (Memref.whole main_arg9) (Memref.isWhole_whole _) arg12 harg12 arg13 harg13 arg14 harg14 arg15 harg15 arg16 harg16 arg17 harg17 arg18 harg18 arg19 harg19 arg20 harg20 cc0_scratch7) K } := by
  refine ⟨?_, ?_, fun K => ?run⟩
  case run =>
    unfold tailPhase firstBlock otherBlocks
    simp only [k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton]
    unfold owns
    iintro ⟨⟨%f2, %hf2, H2⟩, ⟨%f3, %hf3, H3⟩, ⟨%f4, %hf4, H4⟩, ⟨%f6, %hf6, H6⟩, ⟨%f7, %hf7, H7⟩, ⟨%f9, %hf9, H9⟩, ⟨%f12, %hf12, H12⟩, ⟨%f15, %hf15, H15⟩, ⟨%f16, %hf16, H16⟩, ⟨%f17, %hf17, H17⟩, ⟨%f18, %hf18, H18⟩, ⟨%d13, %f13, -, H13⟩, ⟨%f14, %hf14, H14⟩, Hk⟩
    obtain rfl := harg2.eq_unread hf2; obtain rfl := harg3.eq_unread hf3; obtain rfl := harg4.eq_unread hf4; obtain rfl := harg6.eq_unread hf6; obtain rfl := harg7.eq_unread hf7; obtain rfl := harg9.eq_unread hf9; obtain rfl := harg12.eq_unread hf12; obtain rfl := harg15.eq_unread hf15; obtain rfl := harg16.eq_unread hf16; obtain rfl := harg17.eq_unread hf17; obtain rfl := harg18.eq_unread hf18; obtain rfl := harg14.eq_unread hf14
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H7]
    · iexists _; isplitr; · ipureintro; exact harg7.read_unread _
      iexact H7
    isplitl [H9]
    · iexists _; isplitr; · ipureintro; exact harg9.read_unread _
      iexact H9
    isplitl [H12]
    · iexists _; isplitr; · ipureintro; exact harg12.read_unread _
      iexact H12
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H13]
    · iexists _; iexact H13
    iexact H14

end Cert.Kernel.Gen

end
-- ==== Proof.Weights.lean ====
module

public import proofs.«01_k».proof.Proof.Split

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 6464000 in set_option sl_exec.dmaWindow true in set_option sl_exec.dmaWindowSet true in
/-- The copies of the weights, as stores: from the four scratch arrays at anything, the two staging arrays at `s19` and
    `s20`, the semaphores at zero and the HBM operands, the phase ends with the operands and the semaphores as they
    were and each scratch array stored into chunk by chunk; the chunks, last first, are what the run finds. -/
noncomputable def weights_run (c : Dev nD) (i : grid0.Coords) (arg2 : Memref sig .tc .vmem S1x512x1024 .f32) (harg2 : arg2.IsWhole) (arg3 : Memref sig .tc .vmem S1x1x512x256 .f32) (harg3 : arg3.IsWhole) (arg4 : Memref sig .tc .vmem S1x1024 .f32) (harg4 : arg4.IsWhole) (arg6 : Memref sig .tc .vmem S1x3x5632 .f32) (harg6 : arg6.IsWhole) (arg7 : Memref sig .tc .vmem S1x5632 .f32) (harg7 : arg7.IsWhole) (arg9 : Memref sig .tc .vmem S1x1024 .f32) (harg9 : arg9.IsWhole) (arg12 : Memref sig .tc .vmem S1x1024 .f32) (harg12 : arg12.IsWhole) (arg13 : Memref sig .tc .vmem S1x512x1024 .f32) (harg13 : arg13.IsWhole) (arg14 : Memref sig .tc .vmem S2x264x5632 .f32) (harg14 : arg14.IsWhole) (arg15 : Memref sig .tc .vmem S1024x5632 .bf16) (harg15 : arg15.IsWhole) (arg16 : Memref sig .tc .vmem S2816x1024 .bf16) (harg16 : arg16.IsWhole) (arg17 : Memref sig .tc .vmem S1024x1024 .bf16) (harg17 : arg17.IsWhole) (arg18 : Memref sig .tc .vmem S256x1024 .bf16) (harg18 : arg18.IsWhole) (arg19 : Memref sig .tc .vmem S4x32x5632 .f32) (harg19 : arg19.IsWhole) (arg20 : Memref sig .tc .vmem S4x176x1024 .f32) (harg20 : arg20.IsWhole)
    (s19 : Vec F S4x32x5632 .f32) (s20 : Vec F S4x176x1024 .f32) (fh0 : HbBuf0 (F := F) c hbM0_0) (fh1 : HbBuf0 (F := F) c hbM0_1) (fh2 : HbBuf0 (F := F) c hbM0_2) (fh3 : HbBuf0 (F := F) c hbM0_3) :
    Σ' (LU : List (View.Piece (Elt F) S1024x5632 .bf16)) (LD : List (View.Piece (Elt F) S2816x1024 .bf16)) (LG : List (View.Piece (Elt F) S1024x1024 .bf16)), { LP : List (View.Piece (Elt F) S256x1024 .bf16) //
      ∀ (W : Waits sig Unit) (K : PUnit → sProp 𝕄),
        iprop((∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare s19 ∗ owns (c : Thread nD τ) arg20 fullShare s20 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ hbPt0 c hbM0_0 fh0 ∗ hbPt0 c hbM0_1 fh1 ∗ hbPt0 c hbM0_2 fh2 ∗ hbPt0 c hbM0_3 fh3 ∗ owes (c : Thread nD τ) 0 W
            ∗ (iprop((∃ f, arg15.view.loc (c : Thread nD τ) ↦[arg15.view.set]{fullShare} arg15.view.writes (Elt F) f LU) ∗ (∃ f, arg16.view.loc (c : Thread nD τ) ↦[arg16.view.set]{fullShare} arg16.view.writes (Elt F) f LD) ∗ (∃ f, arg17.view.loc (c : Thread nD τ) ↦[arg17.view.set]{fullShare} arg17.view.writes (Elt F) f LG) ∗ (∃ f, arg18.view.loc (c : Thread nD τ) ↦[arg18.view.set]{fullShare} arg18.view.writes (Elt F) f LP) ∗ (∃ d, owns (c : Thread nD τ) arg19 fullShare d) ∗ (∃ d, owns (c : Thread nD τ) arg20 fullShare d) ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (weightPhase i arg2 harg2 arg3 harg3 arg4 harg4 (Memref.whole main_arg3) (Memref.isWhole_whole _) arg6 harg6 arg7 harg7 (Memref.whole main_arg6) (Memref.isWhole_whole _) arg9 harg9 (Memref.whole main_arg8) (Memref.isWhole_whole _) (Memref.whole main_arg9) (Memref.isWhole_whole _) arg12 harg12 arg13 harg13 arg14 harg14 arg15 harg15 arg16 harg16 arg17 harg17 arg18 harg18 arg19 harg19 arg20 harg20 cc0_scratch7) K } := by
  refine ⟨?_, ?_, ?_, ?_, fun W K => ?run⟩
  case run =>
    unfold weightPhase
    simp only [k0_part45_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
    unfold owns
    iintro ⟨⟨%ds1, %fs1, -, HS1⟩, ⟨%ds2, %fs2, -, HS2⟩, ⟨%ds3, %fs3, -, HS3⟩, ⟨%ds4, %fs4, -, HS4⟩, ⟨%fs5, %hs5, HS5⟩, ⟨%fs6, %hs6, HS6⟩, Hq0, Hq1, Hq2, Hq3, Hh0, Hh1, Hh2, Hh3, HW, Hk⟩
    obtain rfl := harg19.eq_unread hs5; obtain rfl := harg20.eq_unread hs6
    sl_exec
    sl_step
    iapply Hk
    isplitl [HS1]; · iexists _; iexact HS1
    isplitl [HS2]; · iexists _; iexact HS2
    isplitl [HS3]; · iexists _; iexact HS3
    isplitl [HS4]; · iexists _; iexact HS4
    isplitl [HS5]
    · iexists _, _; isplitr; swap; · iexact HS5
      ipureintro; rfl
    isplitl [HS6]
    · iexists _, _; isplitr; swap; · iexact HS6
      ipureintro; rfl
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [Hh2]; · iexact Hh2
    isplitl [Hh3]; · iexact Hh3
    iexists _; iexact HW

end Cert.Kernel.Gen

end
-- ==== Proof.Slots.lean ====
module

public import Idealize.ShloMosaic.Lib.Pipeline.Value

@[expose] public section

/-!
A staging array of several slots, filled by copies. A copy writes slot `k` through the squeezed slice `buf[k]`; a later
load reads slot `k` as a block of height one. Here is what such a load finds: the copy's payload if the last copy
was into that slot, and otherwise what was there before that copy.
-/

noncomputable section

namespace Cert.Ffn

open Idealize.ShloMosaic

variable {sig : RefSig} {κ : Kind} {sp : Space} {s s' s'' : Shape} {e : EltTy} {Val : EltTy → Type}

/-- A load of the slot the last copy went into, with the unit axis dropped, is the copy's payload. -/
theorem slot_hit (M : Memref sig κ sp s e) (r : Rect s) (hr : ∀ a, r.stride a = 1) (hq : r.shape.Squeezes s')
    (hc : r.shape.ShapeCasts s') (f : M.view.ty.Contents Val) (X : s'.Idx → Val e) :
    shapeCast s' (M.view.readAt Val r.toLoadRect (((M.slice r hr).squeeze s' hq).view.write Val f X Finset.univ)) hc = X := by
  rw [← Memref.read_squeeze_slice M r hr hq hc]
  exact View.read_write_univ _ _

/-- A load of a slot apart, on some axis, from the one the last copy went into finds what was there before. -/
theorem slot_skip (M : Memref sig κ sp s e) (r r' : Rect s) (hr' : ∀ a, r'.stride a = 1) (hq' : r'.shape.Squeezes s')
    (hd : Disjoint r.set r'.set) (f : M.view.ty.Contents Val) (X : s'.Idx → Val e) :
    M.view.readAt Val r.toLoadRect (((M.slice r' hr').squeeze s' hq').view.write Val f X Finset.univ)
      = M.view.readAt Val r.toLoadRect f := by
  refine View.readAt_congr fun i hi => View.write_of_not_mem _ _ _ fun hm => ?_
  have hs : ((M.slice r' hr').squeeze s' hq').view.setOn Finset.univ = (M.view.slice r').set :=
    View.set_reshape (M.view.slice r') hq'.numel_eq
  rw [hs] at hm
  rw [View.set_slice] at hm
  exact Finset.disjoint_left.mp ((Finset.disjoint_map M.view.emb).mpr hd) hi hm

end Cert.Ffn

end
-- ==== Proof.WeightsValue.lean ====
module

public import proofs.«01_k».proof.Proof.Weights
public import proofs.«01_k».proof.Proof.Slots
public import Idealize.ShloMosaic.Lib.Writes

@[expose] public section

set_option maxRecDepth 16384

noncomputable section

namespace Cert.Kernel.Gen

open Idealize.ShloMosaic Idealize.ShloMosaic.TcCoe Idealize.ShloMosaic.Tactic
open Cert.Ffn

variable {F : FTy → Type} [FloatOps F]

/-- The up-projection's weights as the scratch holds them: the HBM array, its unit axis dropped, in bf16. -/
def upW (c : Dev nD) (fh : HbBuf0 (F := F) c hbM0_0) : FVec F S1024x5632 .bf16 :=
  truncf .bf16 ((hbM0_0.slice (Rect.unit (s := S1x1024x5632) ![0, 0, 0] S1x1024x5632.size inb_S1x1024x5632_S1x1024x5632_0_0_0) (fun _ => rfl)).squeeze S1024x5632 squeezes_S1x1024x5632_S1024x5632 |>.view.read (Elt F) fh) bitsLt_bf16_f32

/-- The down-projection's weights as the scratch holds them. -/
def downW (c : Dev nD) (fh : HbBuf0 (F := F) c hbM0_1) : FVec F S2816x1024 .bf16 :=
  truncf .bf16 ((hbM0_1.slice (Rect.unit (s := S1x2816x1024) ![0, 0, 0] S1x2816x1024.size inb_S1x2816x1024_S1x2816x1024_0_0_0) (fun _ => rfl)).squeeze S2816x1024 squeezes_S1x2816x1024_S2816x1024 |>.view.read (Elt F) fh) bitsLt_bf16_f32

/-- The embedding gate's weights as the scratch holds them. -/
def gateW (c : Dev nD) (fh : HbBuf0 (F := F) c hbM0_2) : FVec F S1024x1024 .bf16 :=
  truncf .bf16 ((hbM0_2.slice (Rect.unit (s := S1x1024x1024) ![0, 0, 0] S1x1024x1024.size inb_S1x1024x1024_S1x1024x1024_0_0_0) (fun _ => rfl)).squeeze S1024x1024 squeezes_S1x1024x1024_S1024x1024 |>.view.read (Elt F) fh) bitsLt_bf16_f32

/-- The embedding projection's weights as the scratch holds them. -/
def projW (c : Dev nD) (fh : HbBuf0 (F := F) c hbM0_3) : FVec F S256x1024 .bf16 :=
  truncf .bf16 ((hbM0_3.slice (Rect.unit (s := S1x256x1024) ![0, 0, 0] S1x256x1024.size inb_S1x256x1024_S1x256x1024_0_0_0) (fun _ => rfl)).squeeze S256x1024 squeezes_S1x256x1024_S256x1024 |>.view.read (Elt F) fh) bitsLt_bf16_f32

/-- A stored chunk agrees with the weights in bf16 once the slot it was read from holds the array's rows. -/
theorem chunk_agrees {s1 sN : Shape} (src : FVec F sN .f32) (r : Rect sN) (v : Vec F s1 .f32)
    (hc : s1.ShapeCasts r.shape) (hcc : r.shape.ShapeCasts r.shape)
    (hv : shapeCast r.shape v hc = fun x => src (r.emb x)) (x : r.shape.Idx) :
    shapeCast r.shape (truncf (F := F) .bf16 (shapeCast r.shape v hc : FVec F r.shape .f32) bitsLt_bf16_f32) hcc x
      = truncf .bf16 src bitsLt_bf16_f32 (r.emb x) := by
  rw [shapeCast_self, hv]
  rfl

/-- Stores of `n` chunks of `R` rows each, last chunk first, meet every index. -/
theorem mem_of_chunks {N C n R : ℕ} {e : EltTy} (L : List (View.Piece (Elt F) ⟨2, ![N, C]⟩ e))
    (hoff : L.map (fun q => q.1.off 0) = (List.range n).map fun b => R * (n - 1 - b))
    (hL : ∀ q ∈ L, q.1.off 1 = 0 ∧ q.1.size = ![R, C] ∧ q.1.stride = fun _ => 1)
    (hR : 0 < R) (hN : N = n * R) (y : (⟨2, ![N, C]⟩ : Shape).Idx) : ∃ q ∈ L, y ∈ q.1.set := by
  have y0 : (y 0).val < N := (y 0).isLt
  have y1 : (y 1).val < C := (y 1).isLt
  have hb : (y 0).val / R < n := by rw [Nat.div_lt_iff_lt_mul hR, ← hN]; exact y0
  have hm : R * ((y 0).val / R) ∈ L.map (fun q => q.1.off 0) := by
    rw [hoff]
    generalize (y 0).val / R = b at hb ⊢
    exact List.mem_map.mpr ⟨n - 1 - b, List.mem_range.mpr (by omega), by rw [show n - 1 - (n - 1 - b) = b by omega]⟩
  obtain ⟨q, hq, e0⟩ := List.mem_map.mp hm
  obtain ⟨e1, es, et⟩ := hL q hq
  refine ⟨q, hq, (LoadRect.mem_set _).mpr fun a => ?_⟩
  rw [es, et]
  fin_cases a
  · exact ⟨(y 0).val % R, Nat.mod_lt _ hR, by
      show (y 0).val = q.1.off 0 + 1 * ((y 0).val % R)
      rw [show q.1.off 0 = R * ((y 0).val / R) from e0, Nat.one_mul, Nat.div_add_mod]⟩
  · exact ⟨(y 1).val, y1, by
      show (y 1).val = q.1.off 1 + 1 * (y 1).val
      rw [e1]; omega⟩

variable (c : Dev nD) (i : grid0.Coords) (arg2 : Memref sig .tc .vmem S1x512x1024 .f32) (harg2 : arg2.IsWhole)
  (arg3 : Memref sig .tc .vmem S1x1x512x256 .f32) (harg3 : arg3.IsWhole)
  (arg4 : Memref sig .tc .vmem S1x1024 .f32) (harg4 : arg4.IsWhole)
  (arg6 : Memref sig .tc .vmem S1x3x5632 .f32) (harg6 : arg6.IsWhole)
  (arg7 : Memref sig .tc .vmem S1x5632 .f32) (harg7 : arg7.IsWhole)
  (arg9 : Memref sig .tc .vmem S1x1024 .f32) (harg9 : arg9.IsWhole)
  (arg12 : Memref sig .tc .vmem S1x1024 .f32) (harg12 : arg12.IsWhole)
  (arg13 : Memref sig .tc .vmem S1x512x1024 .f32) (harg13 : arg13.IsWhole)
  (arg14 : Memref sig .tc .vmem S2x264x5632 .f32) (harg14 : arg14.IsWhole)
  (arg15 : Memref sig .tc .vmem S1024x5632 .bf16) (harg15 : arg15.IsWhole)
  (arg16 : Memref sig .tc .vmem S2816x1024 .bf16) (harg16 : arg16.IsWhole)
  (arg17 : Memref sig .tc .vmem S1024x1024 .bf16) (harg17 : arg17.IsWhole)
  (arg18 : Memref sig .tc .vmem S256x1024 .bf16) (harg18 : arg18.IsWhole)
  (arg19 : Memref sig .tc .vmem S4x32x5632 .f32) (harg19 : arg19.IsWhole)
  (arg20 : Memref sig .tc .vmem S4x176x1024 .f32) (harg20 : arg20.IsWhole)
  (s19 : Vec F S4x32x5632 .f32) (s20 : Vec F S4x176x1024 .f32) (fh0 : HbBuf0 (F := F) c hbM0_0) (fh1 : HbBuf0 (F := F) c hbM0_1) (fh2 : HbBuf0 (F := F) c hbM0_2) (fh3 : HbBuf0 (F := F) c hbM0_3)

set_option maxHeartbeats 4000000 in
/-- The chunks stored into `arg15` leave the up weights there. -/
theorem up_read (f : arg15.view.ty.Contents (Elt F)) :
    arg15.view.read (Elt F) (arg15.view.writes (Elt F) f (weights_run (F := F) c i arg2 harg2 arg3 harg3 arg4 harg4 arg6 harg6 arg7 harg7 arg9 harg9 arg12 harg12 arg13 harg13 arg14 harg14 arg15 harg15 arg16 harg16 arg17 harg17 arg18 harg18 arg19 harg19 arg20 harg20 s19 s20 fh0 fh1 fh2 fh3).1) = upW c fh0 := by
  funext y
  refine View.read_writes_apply_of_pieces _ _ _ _ ?_ y ?_
  · unfold weights_run
    dsimp only
    repeat' refine List.forall_mem_cons.mpr ⟨?_, ?_⟩
    on_goal 33 => exact fun q hq => (List.not_mem_nil hq).elim
    on_goal 17 => unfold weights_run.sl.r_1 k0_pay18 k0_pay19
    all_goals
      intro x
      refine chunk_agrees _ _ _ shapeCasts_S1x32x5632_S32x5632 _ ?_ x
      repeat refine (congrArg (fun v => shapeCast S32x5632 v shapeCasts_S1x32x5632_S32x5632) (slot_skip arg19 _ _ _ _ (Rect.unit_disjoint 0 (by decide)) _ _)).trans ?_
      exact slot_hit arg19 _ _ _ _ _ _
  · refine mem_of_chunks (n := 32) (R := 32) (weights_run (F := F) c i arg2 harg2 arg3 harg3 arg4 harg4 arg6 harg6 arg7 harg7 arg9 harg9 arg12 harg12 arg13 harg13 arg14 harg14 arg15 harg15 arg16 harg16 arg17 harg17 arg18 harg18 arg19 harg19 arg20 harg20 s19 s20 fh0 fh1 fh2 fh3).1 rfl ?_ (by decide) (by decide) y
    unfold weights_run
    dsimp only
    repeat' refine List.forall_mem_cons.mpr ⟨⟨rfl, rfl, rfl⟩, ?_⟩
    exact fun q hq => (List.not_mem_nil hq).elim

set_option maxHeartbeats 4000000 in
/-- The chunks stored into `arg16` leave the down weights there. -/
theorem down_read (f : arg16.view.ty.Contents (Elt F)) :
    arg16.view.read (Elt F) (arg16.view.writes (Elt F) f (weights_run (F := F) c i arg2 harg2 arg3 harg3 arg4 harg4 arg6 harg6 arg7 harg7 arg9 harg9 arg12 harg12 arg13 harg13 arg14 harg14 arg15 harg15 arg16 harg16 arg17 harg17 arg18 harg18 arg19 harg19 arg20 harg20 s19 s20 fh0 fh1 fh2 fh3).2.1) = downW c fh1 := by
  funext y
  refine View.read_writes_apply_of_pieces _ _ _ _ ?_ y ?_
  · unfold weights_run
    dsimp only
    repeat' refine List.forall_mem_cons.mpr ⟨?_, ?_⟩
    on_goal 17 => exact fun q hq => (List.not_mem_nil hq).elim
    all_goals
      intro x
      refine chunk_agrees _ _ _ shapeCasts_S1x176x1024_S176x1024 _ ?_ x
      repeat refine (congrArg (fun v => shapeCast S176x1024 v shapeCasts_S1x176x1024_S176x1024) (slot_skip arg20 _ _ _ _ (Rect.unit_disjoint 0 (by decide)) _ _)).trans ?_
      exact slot_hit arg20 _ _ _ _ _ _
  · refine mem_of_chunks (n := 16) (R := 176) (weights_run (F := F) c i arg2 harg2 arg3 harg3 arg4 harg4 arg6 harg6 arg7 harg7 arg9 harg9 arg12 harg12 arg13 harg13 arg14 harg14 arg15 harg15 arg16 harg16 arg17 harg17 arg18 harg18 arg19 harg19 arg20 harg20 s19 s20 fh0 fh1 fh2 fh3).2.1 rfl ?_ (by decide) (by decide) y
    unfold weights_run
    dsimp only
    repeat' refine List.forall_mem_cons.mpr ⟨⟨rfl, rfl, rfl⟩, ?_⟩
    exact fun q hq => (List.not_mem_nil hq).elim

set_option maxHeartbeats 4000000 in
/-- The chunks stored into `arg17` leave the gate weights there. -/
theorem gate_read (f : arg17.view.ty.Contents (Elt F)) :
    arg17.view.read (Elt F) (arg17.view.writes (Elt F) f (weights_run (F := F) c i arg2 harg2 arg3 harg3 arg4 harg4 arg6 harg6 arg7 harg7 arg9 harg9 arg12 harg12 arg13 harg13 arg14 harg14 arg15 harg15 arg16 harg16 arg17 harg17 arg18 harg18 arg19 harg19 arg20 harg20 s19 s20 fh0 fh1 fh2 fh3).2.2.1) = gateW c fh2 := by
  funext y
  refine View.read_writes_apply_of_pieces _ _ _ _ ?_ y ?_
  · unfold weights_run
    dsimp only
    repeat' refine List.forall_mem_cons.mpr ⟨?_, ?_⟩
    on_goal 9 => exact fun q hq => (List.not_mem_nil hq).elim
    all_goals
      intro x
      refine chunk_agrees _ _ _ shapeCasts_S1x128x1024_S128x1024 _ ?_ x
      repeat refine (congrArg (fun v => shapeCast S128x1024 v shapeCasts_S1x128x1024_S128x1024) (slot_skip arg20 _ _ _ _ (Rect.unit_disjoint 0 (by decide)) _ _)).trans ?_
      exact slot_hit arg20 _ _ _ _ _ _
  · refine mem_of_chunks (n := 8) (R := 128) (weights_run (F := F) c i arg2 harg2 arg3 harg3 arg4 harg4 arg6 harg6 arg7 harg7 arg9 harg9 arg12 harg12 arg13 harg13 arg14 harg14 arg15 harg15 arg16 harg16 arg17 harg17 arg18 harg18 arg19 harg19 arg20 harg20 s19 s20 fh0 fh1 fh2 fh3).2.2.1 rfl ?_ (by decide) (by decide) y
    unfold weights_run
    dsimp only
    repeat' refine List.forall_mem_cons.mpr ⟨⟨rfl, rfl, rfl⟩, ?_⟩
    exact fun q hq => (List.not_mem_nil hq).elim

set_option maxHeartbeats 4000000 in
/-- The chunks stored into `arg18` leave the proj weights there. -/
theorem proj_read (f : arg18.view.ty.Contents (Elt F)) :
    arg18.view.read (Elt F) (arg18.view.writes (Elt F) f (weights_run (F := F) c i arg2 harg2 arg3 harg3 arg4 harg4 arg6 harg6 arg7 harg7 arg9 harg9 arg12 harg12 arg13 harg13 arg14 harg14 arg15 harg15 arg16 harg16 arg17 harg17 arg18 harg18 arg19 harg19 arg20 harg20 s19 s20 fh0 fh1 fh2 fh3).2.2.2.1) = projW c fh3 := by
  funext y
  refine View.read_writes_apply_of_pieces _ _ _ _ ?_ y ?_
  · unfold weights_run
    dsimp only
    repeat' refine List.forall_mem_cons.mpr ⟨?_, ?_⟩
    on_goal 3 => exact fun q hq => (List.not_mem_nil hq).elim
    all_goals
      intro x
      refine chunk_agrees _ _ _ shapeCasts_S1x128x1024_S128x1024 _ ?_ x
      repeat refine (congrArg (fun v => shapeCast S128x1024 v shapeCasts_S1x128x1024_S128x1024) (slot_skip arg20 _ _ _ _ (Rect.unit_disjoint 0 (by decide)) _ _)).trans ?_
      exact slot_hit arg20 _ _ _ _ _ _
  · refine mem_of_chunks (n := 2) (R := 128) (weights_run (F := F) c i arg2 harg2 arg3 harg3 arg4 harg4 arg6 harg6 arg7 harg7 arg9 harg9 arg12 harg12 arg13 harg13 arg14 harg14 arg15 harg15 arg16 harg16 arg17 harg17 arg18 harg18 arg19 harg19 arg20 harg20 s19 s20 fh0 fh1 fh2 fh3).2.2.2.1 rfl ?_ (by decide) (by decide) y
    unfold weights_run
    dsimp only
    repeat' refine List.forall_mem_cons.mpr ⟨⟨rfl, rfl, rfl⟩, ?_⟩
    exact fun q hq => (List.not_mem_nil hq).elim

end Cert.Kernel.Gen
-- ==== Proof.Point.lean ====
module

public import proofs.«01_k».proof.Proof.Compute
public import proofs.«01_k».proof.Proof.WeightsValue
public import Idealize.ShloMosaic.Lib.WholeRead

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-!
One grid point of the FFN kernel, whatever the point: the weights are loaded where the condition asks for it, the eight
rows above the first slab are cleared where the condition asks for it, and the computation runs. `Steps` is the relation
between what the slabs held before and what the output block and the slabs hold after; `body_run` is the run.
-/

variable {F : FTy → Type} [FloatOps F]

local notation "𝕄" => MT nD τ sig Unit (Elt F) ℕ (Pipeline.UD sig nD τ) ℕ

variable (c : Dev nD) (i : grid0.Coords) (arg2 : Memref sig .tc .vmem S1x512x1024 .f32) (harg2 : arg2.IsWhole) (arg3 : Memref sig .tc .vmem S1x1x512x256 .f32) (harg3 : arg3.IsWhole) (arg4 : Memref sig .tc .vmem S1x1024 .f32) (harg4 : arg4.IsWhole) (arg6 : Memref sig .tc .vmem S1x3x5632 .f32) (harg6 : arg6.IsWhole) (arg7 : Memref sig .tc .vmem S1x5632 .f32) (harg7 : arg7.IsWhole) (arg9 : Memref sig .tc .vmem S1x1024 .f32) (harg9 : arg9.IsWhole) (arg12 : Memref sig .tc .vmem S1x1024 .f32) (harg12 : arg12.IsWhole) (arg13 : Memref sig .tc .vmem S1x512x1024 .f32) (harg13 : arg13.IsWhole) (arg14 : Memref sig .tc .vmem S2x264x5632 .f32) (harg14 : arg14.IsWhole) (arg15 : Memref sig .tc .vmem S1024x5632 .bf16) (harg15 : arg15.IsWhole) (arg16 : Memref sig .tc .vmem S2816x1024 .bf16) (harg16 : arg16.IsWhole) (arg17 : Memref sig .tc .vmem S1024x1024 .bf16) (harg17 : arg17.IsWhole) (arg18 : Memref sig .tc .vmem S256x1024 .bf16) (harg18 : arg18.IsWhole) (arg19 : Memref sig .tc .vmem S4x32x5632 .f32) (harg19 : arg19.IsWhole) (arg20 : Memref sig .tc .vmem S4x176x1024 .f32) (harg20 : arg20.IsWhole)

/-- The clearing of the rows above the first slab, as stores into the slabs. -/
def halo_run (slabs : Vec F S2x264x5632 .f32) :
    { LH : List (View.Piece (Elt F) S2x264x5632 .f32) //
      ∀ (K : PUnit → sProp 𝕄),
        iprop(owns (c : Thread nD τ) arg14 fullShare slabs
            ∗ (iprop(arg14.view.loc (c : Thread nD τ) ↦[arg14.view.set]{fullShare} arg14.view.writes (Elt F) (harg14.unread slabs) LH) -∗ K ⟨⟩))
          ⊢ wp frame (wpE (defs₀ (F := F)) Variants.none c none) Set.univ (haloPhase i arg2 harg2 arg3 harg3 arg4 harg4 (Memref.whole main_arg3) (Memref.isWhole_whole _) arg6 harg6 arg7 harg7 (Memref.whole main_arg6) (Memref.isWhole_whole _) arg9 harg9 (Memref.whole main_arg8) (Memref.isWhole_whole _) (Memref.whole main_arg9) (Memref.isWhole_whole _) arg12 harg12 arg13 harg13 arg14 harg14 arg15 harg15 arg16 harg16 arg17 harg17 arg18 harg18 arg19 harg19 arg20 harg20 cc0_scratch7) K } := by
  refine ⟨?_, fun K => ?run⟩
  case run =>
    unfold haloPhase owns
    iintro ⟨⟨%f14, %hf14, H14⟩, Hk⟩
    obtain rfl := harg14.eq_unread hf14
    sl_exec
    sl_step
    iapply Hk
    iexact H14

/-- The slabs a point computes with, from what they held before it: the first eight rows cleared at the first block of a
    sequence, unchanged elsewhere. -/
def Starts (s s' : Vec F S2x264x5632 .f32) : Prop :=
  (cond0_1 i → s' = arg14.view.read (Elt F) (arg14.view.writes (Elt F) (harg14.unread s) (halo_run c i arg2 harg2 arg3 harg3 arg4 harg4 arg6 harg6 arg7 harg7 arg9 harg9 arg12 harg12 arg13 harg13 arg14 harg14 arg15 harg15 arg16 harg16 arg17 harg17 arg18 harg18 arg19 harg19 arg20 harg20 s).1))
    ∧ (¬cond0_1 i → s' = s)

variable (x : Vec F S1x512x1024 .f32) (p : Vec F S1x1x512x256 .f32) (gf : Vec F S1x1024 .f32) (cw : Vec F S1x3x5632 .f32) (cb : Vec F S1x5632 .f32) (gp : Vec F S1x1024 .f32) (gl : Vec F S1x1024 .f32)
  (fh0 : HbBuf0 (F := F) c hbM0_0) (fh1 : HbBuf0 (F := F) c hbM0_1) (fh2 : HbBuf0 (F := F) c hbM0_2) (fh3 : HbBuf0 (F := F) c hbM0_3)

/-- What a point may leave in the output block (`X`) and in the slabs (`s'`), from what the slabs held before (`s`). -/
def Steps (s : Vec F S2x264x5632 .f32) (X : Vec F S1x512x1024 .f32) (s' : Vec F S2x264x5632 .f32) : Prop :=
  ∃ (s₁ : Vec F S2x264x5632 .f32) (f : arg13.view.ty.Contents (Elt F)), Starts c i arg2 harg2 arg3 harg3 arg4 harg4 arg6 harg6 arg7 harg7 arg9 harg9 arg12 harg12 arg13 harg13 arg14 harg14 arg15 harg15 arg16 harg16 arg17 harg17 arg18 harg18 arg19 harg19 arg20 harg20 s s₁
    ∧ X = arg13.view.read (Elt F) (arg13.view.writes (Elt F) f (compute_run c i arg2 harg2 arg3 harg3 arg4 harg4 arg6 harg6 arg7 harg7 arg9 harg9 arg12 harg12 arg13 harg13 arg14 harg14 arg15 harg15 arg16 harg16 arg17 harg17 arg18 harg18 arg19 harg19 arg20 harg20 x p gf cw cb gp gl s₁ (upW c fh0) (downW c fh1) (gateW c fh2) (projW c fh3)).1)
    ∧ s' = arg14.view.read (Elt F) (arg14.view.writes (Elt F) (harg14.unread s₁) (compute_run c i arg2 harg2 arg3 harg3 arg4 harg4 arg6 harg6 arg7 harg7 arg9 harg9 arg12 harg12 arg13 harg13 arg14 harg14 arg15 harg15 arg16 harg16 arg17 harg17 arg18 harg18 arg19 harg19 arg20 harg20 x p gf cw cb gp gl s₁ (upW c fh0) (downW c fh1) (gateW c fh2) (projW c fh3)).2.1)

/-- The weights are in the scratch after the first phase, loaded there or held since an earlier point. -/
theorem weights_step (s15 : Vec F S1024x5632 .bf16) (s16 : Vec F S2816x1024 .bf16) (s17 : Vec F S1024x1024 .bf16) (s18 : Vec F S256x1024 .bf16)
    (hw : ¬cond0_0 i → s15 = upW c fh0 ∧ s16 = downW c fh1 ∧ s17 = gateW c fh2 ∧ s18 = projW c fh3) (W : Waits sig Unit) (K : PUnit → sProp 𝕄) :
    iprop(owns (c : Thread nD τ) arg15 fullShare s15 ∗ owns (c : Thread nD τ) arg16 fullShare s16 ∗ owns (c : Thread nD τ) arg17 fullShare s17 ∗ owns (c : Thread nD τ) arg18 fullShare s18 ∗ (∃ d, owns (c : Thread nD τ) arg19 fullShare d) ∗ (∃ d, owns (c : Thread nD τ) arg20 fullShare d) ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ hbPt0 c hbM0_0 fh0 ∗ hbPt0 c hbM0_1 fh1 ∗ hbPt0 c hbM0_2 fh2 ∗ hbPt0 c hbM0_3 fh3 ∗ owes (c : Thread nD τ) 0 W
        ∗ (iprop(owns (c : Thread nD τ) arg15 fullShare (upW c fh0) ∗ owns (c : Thread nD τ) arg16 fullShare (downW c fh1) ∗ owns (c : Thread nD τ) arg17 fullShare (gateW c fh2) ∗ owns (c : Thread nD τ) arg18 fullShare (projW c fh3) ∗ (∃ d, owns (c : Thread nD τ) arg19 fullShare d) ∗ (∃ d, owns (c : Thread nD τ) arg20 fullShare d) ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
      ⊢ wp frame (wpE (defs₀ (F := F)) Variants.none c none) Set.univ (if cond0_0 i then weightPhase i arg2 harg2 arg3 harg3 arg4 harg4 (Memref.whole main_arg3) (Memref.isWhole_whole _) arg6 harg6 arg7 harg7 (Memref.whole main_arg6) (Memref.isWhole_whole _) arg9 harg9 (Memref.whole main_arg8) (Memref.isWhole_whole _) (Memref.whole main_arg9) (Memref.isWhole_whole _) arg12 harg12 arg13 harg13 arg14 harg14 arg15 harg15 arg16 harg16 arg17 harg17 arg18 harg18 arg19 harg19 arg20 harg20 cc0_scratch7 else pure ⟨⟩) K := by
  by_cases h : cond0_0 i
  · rw [if_pos h]
    iintro ⟨H15, H16, H17, H18, ⟨%d19, H19⟩, ⟨%d20, H20⟩, Hq0, Hq1, Hq2, Hq3, Hh0, Hh1, Hh2, Hh3, HW, Hk⟩
    iapply ((weights_run c i arg2 harg2 arg3 harg3 arg4 harg4 arg6 harg6 arg7 harg7 arg9 harg9 arg12 harg12 arg13 harg13 arg14 harg14 arg15 harg15 arg16 harg16 arg17 harg17 arg18 harg18 arg19 harg19 arg20 harg20 d19 d20 fh0 fh1 fh2 fh3).2.2.2.2 W K)
    isplitl [H15]; · iexists _; iexact H15
    isplitl [H16]; · iexists _; iexact H16
    isplitl [H17]; · iexists _; iexact H17
    isplitl [H18]; · iexists _; iexact H18
    isplitl [H19]; · iexact H19
    isplitl [H20]; · iexact H20
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [Hh2]; · iexact Hh2
    isplitl [Hh3]; · iexact Hh3
    isplitl [HW]; · iexact HW
    iintro ⟨⟨%f15, H15⟩, ⟨%f16, H16⟩, ⟨%f17, H17⟩, ⟨%f18, H18⟩, H19, H20, Hq0, Hq1, Hq2, Hq3, Hh0, Hh1, Hh2, Hh3, HW⟩
    iapply Hk
    isplitl [H15]
    · unfold owns; iexists _; isplitr; swap; · iexact H15
      ipureintro; exact up_read c i arg2 harg2 arg3 harg3 arg4 harg4 arg6 harg6 arg7 harg7 arg9 harg9 arg12 harg12 arg13 harg13 arg14 harg14 arg15 harg15 arg16 harg16 arg17 harg17 arg18 harg18 arg19 harg19 arg20 harg20 d19 d20 fh0 fh1 fh2 fh3 f15
    isplitl [H16]
    · unfold owns; iexists _; isplitr; swap; · iexact H16
      ipureintro; exact down_read c i arg2 harg2 arg3 harg3 arg4 harg4 arg6 harg6 arg7 harg7 arg9 harg9 arg12 harg12 arg13 harg13 arg14 harg14 arg15 harg15 arg16 harg16 arg17 harg17 arg18 harg18 arg19 harg19 arg20 harg20 d19 d20 fh0 fh1 fh2 fh3 f16
    isplitl [H17]
    · unfold owns; iexists _; isplitr; swap; · iexact H17
      ipureintro; exact gate_read c i arg2 harg2 arg3 harg3 arg4 harg4 arg6 harg6 arg7 harg7 arg9 harg9 arg12 harg12 arg13 harg13 arg14 harg14 arg15 harg15 arg16 harg16 arg17 harg17 arg18 harg18 arg19 harg19 arg20 harg20 d19 d20 fh0 fh1 fh2 fh3 f17
    isplitl [H18]
    · unfold owns; iexists _; isplitr; swap; · iexact H18
      ipureintro; exact proj_read c i arg2 harg2 arg3 harg3 arg4 harg4 arg6 harg6 arg7 harg7 arg9 harg9 arg12 harg12 arg13 harg13 arg14 harg14 arg15 harg15 arg16 harg16 arg17 harg17 arg18 harg18 arg19 harg19 arg20 harg20 d19 d20 fh0 fh1 fh2 fh3 f18
    isplitl [H19]; · iexact H19
    isplitl [H20]; · iexact H20
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [Hh2]; · iexact Hh2
    isplitl [Hh3]; · iexact Hh3
    iexact HW
  · rw [if_neg h]
    obtain ⟨rfl, rfl, rfl, rfl⟩ := hw h
    iintro ⟨H15, H16, H17, H18, H19, H20, Hq0, Hq1, Hq2, Hq3, Hh0, Hh1, Hh2, Hh3, HW, Hk⟩
    sl_step
    iapply Hk
    isplitl [H15]; · iexact H15
    isplitl [H16]; · iexact H16
    isplitl [H17]; · iexact H17
    isplitl [H18]; · iexact H18
    isplitl [H19]; · iexact H19
    isplitl [H20]; · iexact H20
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [Hh2]; · iexact Hh2
    isplitl [Hh3]; · iexact Hh3
    iexists W; iexact HW

/-- The slabs after the second phase are the ones the point computes with. -/
theorem halo_step (s : Vec F S2x264x5632 .f32) (K : PUnit → sProp 𝕄) :
    iprop(owns (c : Thread nD τ) arg14 fullShare s ∗ (iprop(∃ s', ⌜Starts c i arg2 harg2 arg3 harg3 arg4 harg4 arg6 harg6 arg7 harg7 arg9 harg9 arg12 harg12 arg13 harg13 arg14 harg14 arg15 harg15 arg16 harg16 arg17 harg17 arg18 harg18 arg19 harg19 arg20 harg20 s s'⌝ ∗ owns (c : Thread nD τ) arg14 fullShare s') -∗ K ⟨⟩))
      ⊢ wp frame (wpE (defs₀ (F := F)) Variants.none c none) Set.univ (if cond0_1 i then haloPhase i arg2 harg2 arg3 harg3 arg4 harg4 (Memref.whole main_arg3) (Memref.isWhole_whole _) arg6 harg6 arg7 harg7 (Memref.whole main_arg6) (Memref.isWhole_whole _) arg9 harg9 (Memref.whole main_arg8) (Memref.isWhole_whole _) (Memref.whole main_arg9) (Memref.isWhole_whole _) arg12 harg12 arg13 harg13 arg14 harg14 arg15 harg15 arg16 harg16 arg17 harg17 arg18 harg18 arg19 harg19 arg20 harg20 cc0_scratch7 else pure ⟨⟩) K := by
  by_cases h : cond0_1 i
  · rw [if_pos h]
    iintro ⟨H14, Hk⟩
    iapply ((halo_run c i arg2 harg2 arg3 harg3 arg4 harg4 arg6 harg6 arg7 harg7 arg9 harg9 arg12 harg12 arg13 harg13 arg14 harg14 arg15 harg15 arg16 harg16 arg17 harg17 arg18 harg18 arg19 harg19 arg20 harg20 s).2 K)
    isplitl [H14]; · iexact H14
    iintro H14
    iapply Hk
    iexists _
    isplitr
    · ipureintro; exact ⟨fun _ => rfl, fun h' => absurd h h'⟩
    unfold owns; iexists _; isplitr; swap; · iexact H14
    ipureintro; rfl
  · rw [if_neg h]
    iintro ⟨H14, Hk⟩
    sl_step
    iapply Hk
    iexists s
    isplitr
    · ipureintro; exact ⟨fun h' => absurd h' h, fun _ => rfl⟩
    iexact H14

/-- ONE GRID POINT: from the inputs, the slabs at `s14` and the weights where an earlier point loaded them, the body leaves
    the inputs, the weights in the scratch, and an output block and slabs that `Steps` allows. -/
theorem body_run (s14 : Vec F S2x264x5632 .f32) (s15 : Vec F S1024x5632 .bf16) (s16 : Vec F S2816x1024 .bf16) (s17 : Vec F S1024x1024 .bf16) (s18 : Vec F S256x1024 .bf16)
    (hw : ¬cond0_0 i → s15 = upW c fh0 ∧ s16 = downW c fh1 ∧ s17 = gateW c fh2 ∧ s18 = projW c fh3) (W : Waits sig Unit) (K : PUnit → sProp 𝕄) :
    iprop(owns (c : Thread nD τ) arg2 fullShare x ∗ owns (c : Thread nD τ) arg3 fullShare p ∗ owns (c : Thread nD τ) arg4 fullShare gf ∗ owns (c : Thread nD τ) arg6 fullShare cw ∗ owns (c : Thread nD τ) arg7 fullShare cb ∗ owns (c : Thread nD τ) arg9 fullShare gp ∗ owns (c : Thread nD τ) arg12 fullShare gl ∗ (∃ d, owns (c : Thread nD τ) arg13 fullShare d) ∗ owns (c : Thread nD τ) arg14 fullShare s14 ∗ owns (c : Thread nD τ) arg15 fullShare s15 ∗ owns (c : Thread nD τ) arg16 fullShare s16 ∗ owns (c : Thread nD τ) arg17 fullShare s17 ∗ owns (c : Thread nD τ) arg18 fullShare s18 ∗ (∃ d, owns (c : Thread nD τ) arg19 fullShare d) ∗ (∃ d, owns (c : Thread nD τ) arg20 fullShare d) ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ hbPt0 c hbM0_0 fh0 ∗ hbPt0 c hbM0_1 fh1 ∗ hbPt0 c hbM0_2 fh2 ∗ hbPt0 c hbM0_3 fh3 ∗ owes (c : Thread nD τ) 0 W
        ∗ (iprop(owns (c : Thread nD τ) arg2 fullShare x ∗ owns (c : Thread nD τ) arg3 fullShare p ∗ owns (c : Thread nD τ) arg4 fullShare gf ∗ owns (c : Thread nD τ) arg6 fullShare cw ∗ owns (c : Thread nD τ) arg7 fullShare cb ∗ owns (c : Thread nD τ) arg9 fullShare gp ∗ owns (c : Thread nD τ) arg12 fullShare gl ∗ (∃ X s', ⌜Steps c i arg2 harg2 arg3 harg3 arg4 harg4 arg6 harg6 arg7 harg7 arg9 harg9 arg12 harg12 arg13 harg13 arg14 harg14 arg15 harg15 arg16 harg16 arg17 harg17 arg18 harg18 arg19 harg19 arg20 harg20 x p gf cw cb gp gl fh0 fh1 fh2 fh3 s14 X s'⌝ ∗ owns (c : Thread nD τ) arg13 fullShare X ∗ owns (c : Thread nD τ) arg14 fullShare s') ∗ owns (c : Thread nD τ) arg15 fullShare (upW c fh0) ∗ owns (c : Thread nD τ) arg16 fullShare (downW c fh1) ∗ owns (c : Thread nD τ) arg17 fullShare (gateW c fh2) ∗ owns (c : Thread nD τ) arg18 fullShare (projW c fh3) ∗ (∃ d, owns (c : Thread nD τ) arg19 fullShare d) ∗ (∃ d, owns (c : Thread nD τ) arg20 fullShare d) ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
      ⊢ wp frame (wpE (defs₀ (F := F)) Variants.none c none) Set.univ (cc0_ffn (F := F) i arg2 harg2 arg3 harg3 arg4 harg4 (Memref.whole main_arg3) (Memref.isWhole_whole _) arg6 harg6 arg7 harg7 (Memref.whole main_arg6) (Memref.isWhole_whole _) arg9 harg9 (Memref.whole main_arg8) (Memref.isWhole_whole _) (Memref.whole main_arg9) (Memref.isWhole_whole _) arg12 harg12 arg13 harg13 arg14 harg14 arg15 harg15 arg16 harg16 arg17 harg17 arg18 harg18 arg19 harg19 arg20 harg20 cc0_scratch7) K := by
  rw [body_split, wp_bind]
  iintro ⟨H2, H3, H4, H6, H7, H9, H12, H13, H14, H15, H16, H17, H18, H19, H20, Hq0, Hq1, Hq2, Hq3, Hh0, Hh1, Hh2, Hh3, HW, Hk⟩
  iapply (weights_step c i arg2 harg2 arg3 harg3 arg4 harg4 arg6 harg6 arg7 harg7 arg9 harg9 arg12 harg12 arg13 harg13 arg14 harg14 arg15 harg15 arg16 harg16 arg17 harg17 arg18 harg18 arg19 harg19 arg20 harg20 fh0 fh1 fh2 fh3 s15 s16 s17 s18 hw W)
  isplitl [H15]; · iexact H15
  isplitl [H16]; · iexact H16
  isplitl [H17]; · iexact H17
  isplitl [H18]; · iexact H18
  isplitl [H19]; · iexact H19
  isplitl [H20]; · iexact H20
  isplitl [Hq0]; · iexact Hq0
  isplitl [Hq1]; · iexact Hq1
  isplitl [Hq2]; · iexact Hq2
  isplitl [Hq3]; · iexact Hq3
  isplitl [Hh0]; · iexact Hh0
  isplitl [Hh1]; · iexact Hh1
  isplitl [Hh2]; · iexact Hh2
  isplitl [Hh3]; · iexact Hh3
  isplitl [HW]; · iexact HW
  iintro ⟨H15, H16, H17, H18, H19, H20, Hq0, Hq1, Hq2, Hq3, Hh0, Hh1, Hh2, Hh3, HW⟩
  rw [wp_bind]
  iapply (halo_step c i arg2 harg2 arg3 harg3 arg4 harg4 arg6 harg6 arg7 harg7 arg9 harg9 arg12 harg12 arg13 harg13 arg14 harg14 arg15 harg15 arg16 harg16 arg17 harg17 arg18 harg18 arg19 harg19 arg20 harg20 s14)
  isplitl [H14]; · iexact H14
  iintro ⟨%s₁, %hs, H14⟩
  iapply ((compute_run c i arg2 harg2 arg3 harg3 arg4 harg4 arg6 harg6 arg7 harg7 arg9 harg9 arg12 harg12 arg13 harg13 arg14 harg14 arg15 harg15 arg16 harg16 arg17 harg17 arg18 harg18 arg19 harg19 arg20 harg20 x p gf cw cb gp gl s₁ (upW c fh0) (downW c fh1) (gateW c fh2) (projW c fh3)).2.2 K)
  isplitl [H2]; · iexact H2
  isplitl [H3]; · iexact H3
  isplitl [H4]; · iexact H4
  isplitl [H6]; · iexact H6
  isplitl [H7]; · iexact H7
  isplitl [H9]; · iexact H9
  isplitl [H12]; · iexact H12
  isplitl [H15]; · iexact H15
  isplitl [H16]; · iexact H16
  isplitl [H17]; · iexact H17
  isplitl [H18]; · iexact H18
  isplitl [H13]; · iexact H13
  isplitl [H14]; · iexact H14
  iintro ⟨H2, H3, H4, H6, H7, H9, H12, H15, H16, H17, H18, ⟨%f, H13⟩, H14⟩
  iapply Hk
  isplitl [H2]; · iexact H2
  isplitl [H3]; · iexact H3
  isplitl [H4]; · iexact H4
  isplitl [H6]; · iexact H6
  isplitl [H7]; · iexact H7
  isplitl [H9]; · iexact H9
  isplitl [H12]; · iexact H12
  isplitl [H13 H14]
  · iexists _, _
    isplitr
    · ipureintro; exact ⟨s₁, f, hs, rfl, rfl⟩
    isplitl [H13]
    · unfold owns; iexists _; isplitr; swap; · iexact H13
      ipureintro; rfl
    unfold owns; iexists _; isplitr; swap; · iexact H14
    ipureintro; rfl
  isplitl [H15]; · iexact H15
  isplitl [H16]; · iexact H16
  isplitl [H17]; · iexact H17
  isplitl [H18]; · iexact H18
  isplitl [H19]; · iexact H19
  isplitl [H20]; · iexact H20
  isplitl [Hq0]; · iexact Hq0
  isplitl [Hq1]; · iexact Hq1
  isplitl [Hq2]; · iexact Hq2
  isplitl [Hq3]; · iexact Hq3
  isplitl [Hh0]; · iexact Hh0
  isplitl [Hh1]; · iexact Hh1
  isplitl [Hh2]; · iexact Hh2
  isplitl [Hh3]; · iexact Hh3
  iexact HW

end Cert.Kernel.Gen

end
-- ==== Proof.Launch.lean ====
module

public import proofs.«01_k».proof.Proof.Point
public import proofs.«01_k».proof.Proof.Setup
public import Idealize.ShloMosaic.Lib.Pipeline.DatRel
public import Idealize.ShloMosaic.Lib.Pipeline.ArrRel
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel cellOf)

/-!
The launch of the FFN kernel, for any values. The slabs are carried from point to point: `Held n` says which contents they
may have before point `n`, by the relation `Steps` of one point, and `Out t` says which blocks point `t` may write. The
weights' scratch holds the four matrices from the first point on. The run ends with every argument unchanged, every
semaphore at zero, and each block of the result one that `Out` allows.
-/

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- `Steps` at the memrefs, blocks and weights of grid point `t`. -/
def StepsAt (c : Dev nD) (t : Fin cfg0.N) (s : Vec F S2x264x5632 .f32) (X : Vec F S1x512x1024 .f32) (s' : Vec F S2x264x5632 .f32) : Prop :=
  Steps c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (V m c main_arg3) (V m c main_arg6) (V m c main_arg8) (V m c main_arg9) s X s'

/-- What the slabs may hold before point `n`: anything before the first, and then what a point may leave. -/
def Held (c : Dev nD) : ℕ → Vec F S2x264x5632 .f32 → Prop
  | 0, _ => True
  | n + 1, s => ∃ (h : n < cfg0.N) (s₀ : Vec F S2x264x5632 .f32) (X : Vec F S1x512x1024 .f32), Held c n s₀ ∧ StepsAt m c ⟨n, h⟩ s₀ X s

/-- What point `t` may leave in the output block. -/
def Out (c : Dev nD) (t : Fin cfg0.N) (X : Vec F S1x512x1024 .f32) : Prop :=
  ∃ s₀ s', Held m c t.val s₀ ∧ StepsAt m c t s₀ X s'

/-- The window held to a relation: the output's. -/
def outOnly : Fin 8 → Bool := fun w => w.val == 7

/-- The relation the output block is held to. -/
def Rl (c : Dev nD) : (w : Fin cfg0.W) → Fin cfg0.N → ((cfg0.win w).block.Idx → Elt F (cfg0.win w).elt) → Prop
  | ⟨7, _⟩, t, X => Out m c t X
  | _, _, _ => True

/-- The invariant before point `n`: at the start what the launch hands over; later the slabs at contents that `Held` allows
    and the four matrices in their scratch. -/
def Inv (c : Dev nD) : (n : ℕ) → n ≤ cfg0.N → sProp 𝕄
  | 0, _ => Pipeline.ΦD osem0 spec0 H0 (V m) c
  | n + 1, _ => iprop(iprop((∃ s, ⌜Held m c (n + 1) s⌝ ∗ owns (c : Thread nD τ) scM0_0 fullShare s) ∗ owns (c : Thread nD τ) scM0_1 fullShare (upW c (V m c main_arg3)) ∗ owns (c : Thread nD τ) scM0_2 fullShare (downW c (V m c main_arg6)) ∗ owns (c : Thread nD τ) scM0_3 fullShare (gateW c (V m c main_arg8)) ∗ owns (c : Thread nD τ) scM0_4 fullShare (projW c (V m c main_arg9)) ∗ (∃ d, owns (c : Thread nD τ) scM0_5 fullShare d) ∗ (∃ d, owns (c : Thread nD τ) scM0_6 fullShare d)) ∗ (∃ r, prngReg c r) ∗ iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0) ∗ iprop(hbPt0 c hbM0_0 (V m c main_arg3) ∗ hbPt0 c hbM0_1 (V m c main_arg6) ∗ hbPt0 c hbM0_2 (V m c main_arg8) ∗ hbPt0 c hbM0_3 (V m c main_arg9)))

theorem Inv_zero (c : Dev nD) (n : ℕ) (h : n ≤ cfg0.N) (hz : n = 0) : Inv m c n h = Pipeline.ΦD osem0 spec0 H0 (V m) c := by
  subst hz; rfl

theorem Inv_pos (c : Dev nD) (n : ℕ) (h : n ≤ cfg0.N) (hz : n ≠ 0) :
    Inv m c n h = iprop(iprop((∃ s, ⌜Held m c n s⌝ ∗ owns (c : Thread nD τ) scM0_0 fullShare s) ∗ owns (c : Thread nD τ) scM0_1 fullShare (upW c (V m c main_arg3)) ∗ owns (c : Thread nD τ) scM0_2 fullShare (downW c (V m c main_arg6)) ∗ owns (c : Thread nD τ) scM0_3 fullShare (gateW c (V m c main_arg8)) ∗ owns (c : Thread nD τ) scM0_4 fullShare (projW c (V m c main_arg9)) ∗ (∃ d, owns (c : Thread nD τ) scM0_5 fullShare d) ∗ (∃ d, owns (c : Thread nD τ) scM0_6 fullShare d)) ∗ (∃ r, prngReg c r) ∗ iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0) ∗ iprop(hbPt0 c hbM0_0 (V m c main_arg3) ∗ hbPt0 c hbM0_1 (V m c main_arg6) ∗ hbPt0 c hbM0_2 (V m c main_arg8) ∗ hbPt0 c hbM0_3 (V m c main_arg9))) := by
  cases n with
  | zero => exact absurd rfl hz
  | succ n => rfl

/-- The proof data of the pipeline: the arrays as the region finds them, the inputs' blocks left in place, the invariant
    `Inv`, nothing owed. What is left in the output is said by `Rl`. -/
def dats (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ t := Inv m c t.val (Nat.le_of_lt_succ t.isLt)
  q _ := fullShare
  owed _ := 0

theorem dats_A (c : Dev nD) (w : Fin cfg0.W) : (dats m c).A w = V m c (Pipeline.arrRef spec0 w) := by
  dsimp only [dats]

theorem dats_castSucc (c : Dev nD) (t : Fin cfg0.N) : (dats m c).Φ t.castSucc = Inv m c t.val (Nat.le_of_lt t.isLt) := by
  dsimp only [dats]; exact Pipeline.Dat.Φ_castSucc (Inv m c) t

theorem dats_after0 (c : Dev nD) (t : Fin cfg0.N) : (dats m c).after 0 t = iblk m c 0 t := by dsimp only [dats]
theorem dats_before0 (c : Dev nD) (t : Fin cfg0.N) (d) : (dats m c).before 0 t d = iblk m c 0 t :=
  (dats m c).before_in_eq_fetched 0 rfl (fun _ => rfl) (fun _ _ _ => rfl) (fun _ => rfl) t d
theorem dats_after1 (c : Dev nD) (t : Fin cfg0.N) : (dats m c).after 1 t = iblk m c 1 t := by dsimp only [dats]
theorem dats_before1 (c : Dev nD) (t : Fin cfg0.N) (d) : (dats m c).before 1 t d = iblk m c 1 t :=
  (dats m c).before_in_eq_fetched 1 rfl (fun _ => rfl) (fun _ _ _ => rfl) (fun _ => rfl) t d
theorem dats_after2 (c : Dev nD) (t : Fin cfg0.N) : (dats m c).after 2 t = iblk m c 2 t := by dsimp only [dats]
theorem dats_before2 (c : Dev nD) (t : Fin cfg0.N) (d) : (dats m c).before 2 t d = iblk m c 2 t :=
  (dats m c).before_in_eq_fetched 2 rfl (fun _ => rfl) (fun _ _ _ => rfl) (fun _ => rfl) t d
theorem dats_after3 (c : Dev nD) (t : Fin cfg0.N) : (dats m c).after 3 t = iblk m c 3 t := by dsimp only [dats]
theorem dats_before3 (c : Dev nD) (t : Fin cfg0.N) (d) : (dats m c).before 3 t d = iblk m c 3 t :=
  (dats m c).before_in_eq_fetched 3 rfl (fun _ => rfl) (fun _ _ _ => rfl) (fun _ => rfl) t d
theorem dats_after4 (c : Dev nD) (t : Fin cfg0.N) : (dats m c).after 4 t = iblk m c 4 t := by dsimp only [dats]
theorem dats_before4 (c : Dev nD) (t : Fin cfg0.N) (d) : (dats m c).before 4 t d = iblk m c 4 t :=
  (dats m c).before_in_eq_fetched 4 rfl (fun _ => rfl) (fun _ _ _ => rfl) (fun _ => rfl) t d
theorem dats_after5 (c : Dev nD) (t : Fin cfg0.N) : (dats m c).after 5 t = iblk m c 5 t := by dsimp only [dats]
theorem dats_before5 (c : Dev nD) (t : Fin cfg0.N) (d) : (dats m c).before 5 t d = iblk m c 5 t :=
  (dats m c).before_in_eq_fetched 5 rfl (fun _ => rfl) (fun _ _ _ => rfl) (fun _ => rfl) t d
theorem dats_after6 (c : Dev nD) (t : Fin cfg0.N) : (dats m c).after 6 t = iblk m c 6 t := by dsimp only [dats]
theorem dats_before6 (c : Dev nD) (t : Fin cfg0.N) (d) : (dats m c).before 6 t d = iblk m c 6 t :=
  (dats m c).before_in_eq_fetched 6 rfl (fun _ => rfl) (fun _ _ _ => rfl) (fun _ => rfl) t d

/-- What the body is called with at point `t`, the windows one by one, -/
def pointPre (c : Dev nD) (t : Fin cfg0.N) : sProp 𝕄 :=
  iprop((dats m c).Φ t.castSucc ∗ (dats m c).owesAt () t.castSucc
    ∗ (∃ d, owns (c : Thread nD τ) (ms0_0 t) fullShare ((dats m c).before 0 t d))
    ∗ (∃ d, owns (c : Thread nD τ) (ms0_1 t) fullShare ((dats m c).before 1 t d))
    ∗ (∃ d, owns (c : Thread nD τ) (ms0_2 t) fullShare ((dats m c).before 2 t d))
    ∗ (∃ d, owns (c : Thread nD τ) (ms0_3 t) fullShare ((dats m c).before 3 t d))
    ∗ (∃ d, owns (c : Thread nD τ) (ms0_4 t) fullShare ((dats m c).before 4 t d))
    ∗ (∃ d, owns (c : Thread nD τ) (ms0_5 t) fullShare ((dats m c).before 5 t d))
    ∗ (∃ d, owns (c : Thread nD τ) (ms0_6 t) fullShare ((dats m c).before 6 t d))
    ∗ (∃ Y, ⌜((dats m c).toRRel outOnly (Rl m c)).Finds 7 t Y⌝ ∗ owns (c : Thread nD τ) (ms0_7 t) fullShare Y))

/-- and what it returns. -/
def pointPost (c : Dev nD) (t : Fin cfg0.N) : sProp 𝕄 :=
  iprop((dats m c).Φ t.succ ∗ (dats m c).owesAt () t.succ
    ∗ owns (c : Thread nD τ) (ms0_0 t) fullShare ((dats m c).after 0 t)
    ∗ owns (c : Thread nD τ) (ms0_1 t) fullShare ((dats m c).after 1 t)
    ∗ owns (c : Thread nD τ) (ms0_2 t) fullShare ((dats m c).after 2 t)
    ∗ owns (c : Thread nD τ) (ms0_3 t) fullShare ((dats m c).after 3 t)
    ∗ owns (c : Thread nD τ) (ms0_4 t) fullShare ((dats m c).after 4 t)
    ∗ owns (c : Thread nD τ) (ms0_5 t) fullShare ((dats m c).after 5 t)
    ∗ owns (c : Thread nD τ) (ms0_6 t) fullShare ((dats m c).after 6 t)
    ∗ (∃ X, ⌜Rl m c 7 t X⌝ ∗ owns (c : Thread nD τ) (ms0_7 t) fullShare X))

/-- The point's run with the slabs and the weights' scratch at given contents, from those to the next invariant. -/
theorem point_run (c : Dev nD) (t : Fin cfg0.N) (s14 : Vec F S2x264x5632 .f32) (s15 : Vec F S1024x5632 .bf16) (s16 : Vec F S2816x1024 .bf16) (s17 : Vec F S1024x1024 .bf16) (s18 : Vec F S256x1024 .bf16)
    (hs : Held m c t.val s14)
    (hw : ¬cond0_0 (grid0.coords t) → s15 = upW c (V m c main_arg3) ∧ s16 = downW c (V m c main_arg6) ∧ s17 = gateW c (V m c main_arg8) ∧ s18 = projW c (V m c main_arg9)) :
    iprop(iprop(iprop(owns (c : Thread nD τ) scM0_0 fullShare s14 ∗ owns (c : Thread nD τ) scM0_1 fullShare s15 ∗ owns (c : Thread nD τ) scM0_2 fullShare s16 ∗ owns (c : Thread nD τ) scM0_3 fullShare s17 ∗ owns (c : Thread nD τ) scM0_4 fullShare s18 ∗ (∃ d, owns (c : Thread nD τ) scM0_5 fullShare d) ∗ (∃ d, owns (c : Thread nD τ) scM0_6 fullShare d)) ∗ (∃ r, prngReg c r) ∗ iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0) ∗ iprop(hbPt0 c hbM0_0 (V m c main_arg3) ∗ hbPt0 c hbM0_1 (V m c main_arg6) ∗ hbPt0 c hbM0_2 (V m c main_arg8) ∗ hbPt0 c hbM0_3 (V m c main_arg9)))
        ∗ (dats m c).owesAt () t.castSucc
        ∗ owns (c : Thread nD τ) (ms0_0 t) fullShare (iblk m c 0 t)
        ∗ owns (c : Thread nD τ) (ms0_1 t) fullShare (iblk m c 1 t)
        ∗ owns (c : Thread nD τ) (ms0_2 t) fullShare (iblk m c 2 t)
        ∗ owns (c : Thread nD τ) (ms0_3 t) fullShare (iblk m c 3 t)
        ∗ owns (c : Thread nD τ) (ms0_4 t) fullShare (iblk m c 4 t)
        ∗ owns (c : Thread nD τ) (ms0_5 t) fullShare (iblk m c 5 t)
        ∗ owns (c : Thread nD τ) (ms0_6 t) fullShare (iblk m c 6 t)
        ∗ (∃ Y, ⌜((dats m c).toRRel outOnly (Rl m c)).Finds 7 t Y⌝ ∗ owns (c : Thread nD τ) (ms0_7 t) fullShare Y))
      ⊢ wp frame (wpE (defs₀ (F := F)) Variants.none c none) Set.univ (bodyAt0 t) (fun _ => pointPost m c t) := by
  unfold pointPost bodyAt0
  rw [show (dats m c).Φ t.succ = Inv m c (t.val + 1) t.isLt from rfl, Inv_pos m c _ _ (Nat.succ_ne_zero _),
    dats_after0, dats_after1, dats_after2, dats_after3, dats_after4, dats_after5, dats_after6]
  unfold Dat.owesAt Pipeline.owesWithin
  rw [show (dats m c).owed t.castSucc = 0 from rfl, show (dats m c).owed t.succ = 0 from rfl]
  iintro ⟨⟨⟨HS0, HS1, HS2, HS3, HS4, HS5, HS6⟩, Hg, ⟨Hq0, Hq1, Hq2, Hq3⟩, ⟨Hh0, Hh1, Hh2, Hh3⟩⟩, ⟨%W, -, HW⟩, H0, H1, H2, H3, H4, H5, H6, ⟨%Y, -, H7⟩⟩
  iapply (body_run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (V m c main_arg3) (V m c main_arg6) (V m c main_arg8) (V m c main_arg9) s14 s15 s16 s17 s18 hw W)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [Hq0]; · iexact Hq0
  isplitl [Hq1]; · iexact Hq1
  isplitl [Hq2]; · iexact Hq2
  isplitl [Hq3]; · iexact Hq3
  isplitl [Hh0]; · iexact Hh0
  isplitl [Hh1]; · iexact Hh1
  isplitl [Hh2]; · iexact Hh2
  isplitl [Hh3]; · iexact Hh3
  isplitl [HW]; · iexact HW
  iintro ⟨H0, H1, H2, H3, H4, H5, H6, ⟨%X, %s', %hX, H7, HS0⟩, HS1, HS2, HS3, HS4, HS5, HS6, Hq0, Hq1, Hq2, Hq3, Hh0, Hh1, Hh2, Hh3, ⟨%W', HW'⟩⟩
  isplitl [HS0 HS1 HS2 HS3 HS4 HS5 HS6 Hg Hq0 Hq1 Hq2 Hq3 Hh0 Hh1 Hh2 Hh3]
  · isplitl [HS0 HS1 HS2 HS3 HS4 HS5 HS6]
    · isplitl [HS0]
      · iexists s'
        isplitr
        · ipureintro; exact ⟨t.isLt, s14, X, hs, hX⟩
        iexact HS0
      isplitl [HS1]; · iexact HS1
      isplitl [HS2]; · iexact HS2
      isplitl [HS3]; · iexact HS3
      isplitl [HS4]; · iexact HS4
      isplitl [HS5]; · iexact HS5
      iexact HS6
    isplitl [Hg]; · iexact Hg
    isplitl [Hq0 Hq1 Hq2 Hq3]
    · isplitl [Hq0]; · iexact Hq0
      isplitl [Hq1]; · iexact Hq1
      isplitl [Hq2]; · iexact Hq2
      iexact Hq3
    isplitl [Hh0]; · iexact Hh0
    isplitl [Hh1]; · iexact Hh1
    isplitl [Hh2]; · iexact Hh2
    iexact Hh3
  isplitl [HW']
  · iexists W'
    isplitr
    · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  iexists X
  isplitr
  · ipureintro; exact ⟨s14, s', hs, hX⟩
  iexact H7

/-- The body at any point, from the invariant to the next. -/
theorem point_sound (c : Dev nD) (t : Fin cfg0.N) :
    pointPre m c t ⊢ wp frame (wpE (defs₀ (F := F)) Variants.none c none) Set.univ (bodyAt0 t) (fun _ => pointPost m c t) := by
  unfold pointPre
  simp only [dats_before0, dats_before1, dats_before2, dats_before3, dats_before4, dats_before5, dats_before6]
  have hN : t.val < 32 := lt_of_lt_of_eq t.isLt (show cfg0.N = 32 from N_0)
  by_cases hz : t.val = 0
  · rw [dats_castSucc m c t, Inv_zero m c _ _ hz, PhiD0_eq]
    iintro ⟨⟨⟨⟨%s14, HS0⟩, ⟨%s15, HS1⟩, ⟨%s16, HS2⟩, ⟨%s17, HS3⟩, ⟨%s18, HS4⟩, HS5, HS6⟩, HR⟩, HW, ⟨%d0, H0⟩, ⟨%d1, H1⟩, ⟨%d2, H2⟩, ⟨%d3, H3⟩, ⟨%d4, H4⟩, ⟨%d5, H5⟩, ⟨%d6, H6⟩, H7⟩
    iapply (point_run m c t s14 s15 s16 s17 s18 (by rw [hz]; trivial) fun h => absurd ((hcond0_0 t).mpr (by omega)) h)
    isplitl [HS0 HS1 HS2 HS3 HS4 HS5 HS6 HR]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact HR
    isplitl [HW]; · iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [dats_castSucc m c t, Inv_pos m c _ _ hz]
    iintro ⟨⟨⟨⟨%s14, %hs, HS0⟩, HS⟩, HR⟩, HW, ⟨%d0, H0⟩, ⟨%d1, H1⟩, ⟨%d2, H2⟩, ⟨%d3, H3⟩, ⟨%d4, H4⟩, ⟨%d5, H5⟩, ⟨%d6, H6⟩, H7⟩
    iapply (point_run m c t s14 _ _ _ _ hs fun _ => ⟨rfl, rfl, rfl, rfl⟩)
    isplitl [HS0 HS HR]
    · isplitl [HS0 HS]
      · isplitl [HS0]; · iexact HS0
        iexact HS
      iexact HR
    isplitl [HW]; · iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem row_eq (t : Fin cfg0.N) : defs₀ (F := F) .tc cfg0.body (cfg0.bodyArgs t (cfg0.slots t)) = bodyAt0 t := by
  unfold defs₀; rw [Defs.onTc_tc]

/-- The library's obligation with the output held to `Rl`. -/
theorem obligation (c : Dev nD) : BodyObligationRel (dats (F := F) m c) (defs₀ (F := F)) Variants.none () Set.univ outOnly (Rl m c) := fun t => by
  rw [bigSep_W0, bigSep_W0, row_eq]
  exact triple_restated (point_sound m c t) rfl .rfl fun _ => .rfl

/-- What the launch hands over is the invariant before the first point. -/
theorem inv_in (c : Dev nD) : Pipeline.ΦD osem0 spec0 H0 (V m) c ⊢ (dats m c).Φ 0 := by
  rw [show (dats m c).Φ 0 = Inv m c 0 (Nat.zero_le _) from rfl, Inv_zero m c 0 _ rfl]

/-- The invariant after the last point gives it back. -/
theorem inv_out (c : Dev nD) : (dats m c).Φ (Fin.last cfg0.N) ⊢ Pipeline.ΦD osem0 spec0 H0 (V m) c := by
  have hN : cfg0.N = 32 := N_0
  rw [show (dats m c).Φ (Fin.last cfg0.N) = Inv m c cfg0.N (Nat.le_refl _) from rfl, Inv_pos m c _ _ (by omega), PhiD0_eq]
  iintro ⟨⟨⟨%s, -, HS0⟩, HS1, HS2, HS3, HS4, HS5, HS6⟩, HR⟩
  isplitl [HS0 HS1 HS2 HS3 HS4 HS5 HS6]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexact HS5
    iexact HS6
  iexact HR

/-- The proof data read as relations. -/
abbrev rdats (c : Dev nD) : Pipeline.RDat τ (Elt F) Unit ℕ (Pipeline.UD sig nD τ) ℕ (cfgs 0) c := (dats m c).toRRel outOnly (Rl m c)

set_option backward.isDefEq.respectTransparency.types false in
/-- THE RUN: every execution ends, with the arrays as `rdats` says and every semaphore at zero. -/
theorem run_quiescent : θ_run defs (onTc (τ := τ) (main (F := F))) (s₀ m ρ) (fun r => Pipeline.RDat.FramePost (cfgs 0) (rdats m) (V m) r ∧ r.2.sem = fun _ => 0) :=
  Pipeline.RDat.θ_run_frame_dma (Q' := _) cfgs (0 : Fin 1) launch0 osem0 defs₀ Variants.none (rdats m) ownSemFacts0 H0 H0_sub m ρ main
    (hbody := fun c => (obligation m c).toRRel) (hshare := fun c => (dats m c).share_full fun _ => rfl)
    (howed := fun _ _ => rfl) (V := V m) (hmain := hmain_dma m Variants.none) (hA := dats_A m) (hin := inv_in m) (hout := inv_out m)

/-- The run without the semaphores. -/
theorem run_post : θ_run defs (onTc (τ := τ) (main (F := F))) (s₀ m ρ) (Pipeline.RDat.FramePost (cfgs 0) (rdats m) (V m)) :=
  (θ_run defs _ _).mono (fun _ h => h.1) (run_quiescent m ρ)

/-- The argument arrays end unchanged. -/
theorem args_unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  args_of m ρ (rdats m) (dats_A m) (run_post m ρ)

/-- THE FRAME: every execution ends, the arguments unchanged and every semaphore at zero. -/
theorem ffn_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (args_unchanged m ρ) ((θ_run defs _ _).mono (fun _ h => h.2) (run_quiescent m ρ))

end Cert.Kernel.Gen

end
-- ==== Proof.Rows.lean ====
module

public import Idealize.ShloMosaic.Lib.Pointwise

@[expose] public section

noncomputable section

namespace Cert.Ffn

open Idealize.ShloMosaic

/-!
The feed-forward half of the layer, one token at a time, over the extended reals. A token's row is normalized, projected
up, mixed with the projected rows of the two tokens before it, gated, projected down and added back; the result is
normalized again, gated by a projection of the token's embedding, and normalized a last time. Both the kernel and the
reference are shown to compute these functions.
-/

/-- The weights of the feed-forward half, by index. -/
structure Params where
  /-- scale of the first normalization -/
  gf : Fin 1024 → EReal
  /-- scale of the gate's normalization -/
  gp : Fin 1024 → EReal
  /-- scale of the last normalization -/
  gl : Fin 1024 → EReal
  /-- taps of the causal mixing, oldest token first -/
  cw : Fin 3 → Fin 5632 → EReal
  /-- bias of the causal mixing -/
  cb : Fin 5632 → EReal
  /-- projection up -/
  wu : Fin 1024 → Fin 5632 → EReal
  /-- projection down -/
  wd : Fin 2816 → Fin 1024 → EReal
  /-- projection of the gate -/
  wg : Fin 1024 → Fin 1024 → EReal
  /-- projection of the embedding -/
  wj : Fin 256 → Fin 1024 → EReal

/-- A row scaled by the inverse root of its mean square, then by `g`. -/
def rmsRow (v g : Fin 1024 → EReal) (l : Fin 1024) : EReal :=
  v l * Ideal.rsqrt (Ideal.div (∑ k, v k * v k) (Ideal.ofBits FTy.f32 0x44800000#32) + Ideal.ofBits FTy.f32 0x358637BD#32) * g l

/-- A token's row normalized and projected up. -/
def up (P : Params) (v : Fin 1024 → EReal) (j : Fin 5632) : EReal :=
  ∑ k, rmsRow v P.gf k * P.wu k j

/-- The causal mixing of three tokens' projected rows, `a` the oldest. -/
def mix (P : Params) (a b c : Fin 5632 → EReal) (j : Fin 5632) : EReal :=
  P.cb j + P.cw 0 j * a j + P.cw 1 j * b j + P.cw 2 j * c j

/-- The smooth gate, by its hyperbolic tangent. -/
def gelu (y : EReal) : EReal :=
  y * (Ideal.ofBits FTy.f32 0x3F000000#32 *
    (1 + Ideal.tanh (Ideal.ofBits FTy.f32 0x3F4C422A#32 * (y + Ideal.ofBits FTy.f32 0x3D372713#32 * (y * (y * y))))))

/-- The gated row: the first half of the mixed row through the gate, times the second half. -/
def act (P : Params) (a b c : Fin 5632 → EReal) (l : Fin 2816) : EReal :=
  gelu (mix P a b c ⟨l.val, by omega⟩) * mix P a b c ⟨2816 + l.val, by omega⟩

/-- A token's row with the gated row projected down added to it. -/
def mid (P : Params) (v : Fin 1024 → EReal) (a b c : Fin 5632 → EReal) (l : Fin 1024) : EReal :=
  v l + ∑ k, act P a b c k * P.wd k l

/-- A row with its gated embedding added. -/
def gated (P : Params) (y : Fin 1024 → EReal) (p : Fin 256 → EReal) (l : Fin 1024) : EReal :=
  y l + Ideal.logistic (∑ k, rmsRow y P.gp k * P.wg k l) * ∑ k, p k * P.wj k l

/-- A token's row of the result, from its row `v`, its embedding `p` and the projected rows of the tokens up to it. -/
def outRow (P : Params) (v : Fin 1024 → EReal) (p : Fin 256 → EReal) (a b c : Fin 5632 → EReal) (l : Fin 1024) : EReal :=
  rmsRow (gated P (mid P v a b c) p) P.gl l

/-- A token's projected row as the causal mixing reads it, two positions later: zero before the sequence's first token. -/
def past (P : Params) (X : Fin 8192 → Fin 1024 → EReal) (n : ℕ) (j : Fin 5632) : EReal :=
  if h : 2 ≤ n ∧ n - 2 < 8192 then up P (X ⟨n - 2, h.2⟩) j else 0

/-- Token `n`'s row of the result, from the rows `X` of its sequence and its embedding `p`. -/
def seqRow (P : Params) (X : Fin 8192 → Fin 1024 → EReal) (p : Fin 256 → EReal) (n : Fin 8192) (l : Fin 1024) : EReal :=
  outRow P (X n) p (past P X n.val) (past P X (n.val + 1)) (past P X (n.val + 2)) l

/-- The projected rows a block of 512 tokens meets, in order: eight rows `H` from before the block, then its own. -/
def ext (P : Params) (xs : Fin 512 → Fin 1024 → EReal) (H : Fin 8 → Fin 5632 → EReal) (n : ℕ) (j : Fin 5632) : EReal :=
  if h : n < 8 then H ⟨n, h⟩ j else if h' : n - 8 < 512 then up P (xs ⟨n - 8, h'⟩) j else 0

theorem ext_old (P : Params) (xs : Fin 512 → Fin 1024 → EReal) (H : Fin 8 → Fin 5632 → EReal) (r : Fin 8) (j : Fin 5632) :
    ext P xs H r.val j = H r j := by simp [ext]

theorem ext_new (P : Params) (xs : Fin 512 → Fin 1024 → EReal) (H : Fin 8 → Fin 5632 → EReal) (n : ℕ) (r : Fin 512)
    (h : n = 8 + r.val) (j : Fin 5632) : ext P xs H n j = up P (xs r) j := by
  subst h
  unfold ext
  rw [dif_neg (by omega), dif_pos (by omega)]
  congr 2
  exact Fin.ext (Nat.add_sub_cancel_left 8 r.val)

end Cert.Ffn
-- ==== Proof.SlabValue.lean ====
module

public import proofs.«01_k».proof.Proof.Compute
public import proofs.«01_k».proof.Proof.Rows
public import Idealize.ShloMosaic.Lib.WholeRead
public import Idealize.ShloMosaic.Lib.Writes

@[expose] public section

set_option maxRecDepth 16384

noncomputable section

namespace Cert.Kernel.Gen

open Idealize.ShloMosaic Idealize.ShloMosaic.TcCoe Idealize.ShloMosaic.Tactic
open Cert.Ffn

/-- The weights' contents by index. -/
def params (cw : Vec Ideal S1x3x5632 .f32) (cb : Vec Ideal S1x5632 .f32) (gf gp gl : Vec Ideal S1x1024 .f32)
    (wu : Vec Ideal S1024x5632 .bf16) (wd : Vec Ideal S2816x1024 .bf16) (wg : Vec Ideal S1024x1024 .bf16)
    (wj : Vec Ideal S256x1024 .bf16) : Params where
  gf l := gf (ix2 0 l)
  gp l := gp (ix2 0 l)
  gl l := gl (ix2 0 l)
  cw a j := cw (ix3 0 a j)
  cb j := cb (ix2 0 j)
  wu k j := wu (ix2 k j)
  wd k j := wd (ix2 k j)
  wg k j := wg (ix2 k j)
  wj k j := wj (ix2 k j)

/-- What the two slabs hold once a block's rows are projected: slab `s` holds rows `256 s` and on. -/
def slabOf (P : Params) (xs : Fin 512 → Fin 1024 → EReal) (H : Fin 8 → Fin 5632 → EReal) (y : S2x264x5632.Idx) : EReal :=
  ext P xs H (256 * (y 0).val + (y 1).val) (y 2)

/-- The first eight rows of the first slab: the projected rows before the block. -/
def oldRows (slabs : Vec Ideal S2x264x5632 .f32) (r : Fin 8) (j : Fin 5632) : EReal :=
  slabs (ix3 0 ⟨r.val, by omega⟩ j)

/-- One column block of one half's projection, at an index. -/
theorem pay67_apply (v : Vec Ideal S1x256x1024 .f32) (g : Vec Ideal S1x1024 .f32) (w : Vec Ideal S1024x256 .bf16)
    (r l : Fin 256) :
    (k0_pay67 (F := Ideal) v g w (ix3 0 r l) : EReal)
      = ∑ k, rmsRow (fun k => v (ix3 0 r k)) (fun k => g (ix2 0 k)) k * w (ix2 k l) := by
  pointwise [k0_pay67, k0_pay66]
  rfl

/-- A stored column block agrees with the slabs' contents: the block of columns from `off` of the half from row `o`. -/
theorem stored_block (arg2 : Memref sig .tc .vmem S1x512x1024 .f32) (harg2 : arg2.IsWhole)
    (arg4 : Memref sig .tc .vmem S1x1024 .f32) (harg4 : arg4.IsWhole)
    (arg15 : Memref sig .tc .vmem S1024x5632 .bf16) (harg15 : arg15.IsWhole)
    (x : Vec Ideal S1x512x1024 .f32) (gf : Vec Ideal S1x1024 .f32) (wu : Vec Ideal S1024x5632 .bf16)
    (P : Params) (hg : P.gf = fun l => gf (ix2 0 l)) (hw : P.wu = fun k j => wu (ix2 k j))
    (H : Fin 8 → Fin 5632 → EReal) (o off s : ℕ) (hs : o = 256 * s)
    (ho : ∀ a, (![0, o, 0] : Fin 3 → ℕ) a + S1x256x1024.size a ≤ S1x512x1024.size a)
    (hz : ∀ a, (![0, 0] : Fin 2 → ℕ) a + S1x1024.size a ≤ S1x1024.size a)
    (hf : ∀ a, (![0, off] : Fin 2 → ℕ) a + S1024x256.size a ≤ S1024x5632.size a)
    (hd : ∀ a, (![s, 8, off] : Fin 3 → ℕ) a + S1x256x256.size a ≤ S2x264x5632.size a) (t : S1x256x256.Idx) :
    (k0_pay67 (F := Ideal)
        (View.readAt (Elt Ideal) arg2.view (Rect.unit (s := S1x512x1024) ![0, o, 0] S1x256x1024.size ho).toLoadRect (harg2.unread x))
        (View.readAt (Elt Ideal) arg4.view (Rect.unit (s := S1x1024) ![0, 0] S1x1024.size hz).toLoadRect (harg4.unread gf))
        (View.readAt (Elt Ideal) arg15.view (Rect.unit (s := S1024x5632) ![0, off] S1024x256.size hf).toLoadRect (harg15.unread wu)) t : EReal)
      = slabOf P (fun r k => x (ix3 0 r k)) H ((Rect.unit (s := S2x264x5632) ![s, 8, off] S1x256x256.size hd).emb t) := by
  obtain ⟨r, l, rfl⟩ : ∃ (r l : Fin 256), t = ix3 0 r l :=
    ⟨t 1, t 2, funext fun a => by fin_cases a <;> [exact Subsingleton.elim (α := Fin 1) _ _; rfl; rfl]⟩
  have h1 := ho 1
  simp [S1x256x1024, S1x512x1024] at h1
  have h2 := hf 1
  simp [S1024x256, S1024x5632] at h2
  rw [pay67_apply]
  unfold slabOf
  have e2 : (Rect.unit (s := S2x264x5632) ![s, 8, off] S1x256x256.size hd).emb (ix3 0 r l) 2 = (⟨off + l.val, by omega⟩ : Fin 5632) :=
    Fin.ext (by show off + 1 * l.val = off + l.val; omega)
  have e1 : ((Rect.unit (s := S2x264x5632) ![s, 8, off] S1x256x256.size hd).emb (ix3 0 r l) 1).val = 8 + r.val := by
    show 8 + 1 * r.val = _; omega
  have e0 : ((Rect.unit (s := S2x264x5632) ![s, 8, off] S1x256x256.size hd).emb (ix3 0 r l) 0).val = s := by
    show s + 1 * 0 = _; omega
  rw [e0, e1, e2, ext_new P _ H _ ⟨o + r.val, by omega⟩ (by show _ = 8 + (o + r.val); omega)]
  unfold up
  refine Finset.sum_congr rfl fun k _ => ?_
  congr 1
  · congr 1
    · funext k
      rw [harg2.readAt_unread]
      exact congrArg x (funext fun a => by
        fin_cases a <;> [exact Fin.ext (by rfl); exact Fin.ext (by show o + 1 * r.val = o + r.val; omega); exact Fin.ext (by show 0 + 1 * k.val = k.val; omega)])
    · rw [hg]
      funext k
      rw [harg4.readAt_unread]
      exact congrArg gf (funext fun a => by
        fin_cases a <;> [exact Fin.ext (by rfl); exact Fin.ext (by show 0 + 1 * k.val = k.val; omega)])
  · rw [hw, harg15.readAt_unread]
    exact congrArg wu (funext fun a => by
      fin_cases a <;> [exact Fin.ext (by show 0 + 1 * k.val = k.val; omega); exact Fin.ext (by show off + 1 * l.val = off + l.val; omega)])

variable (c : Dev nD) (arg2 : Memref sig .tc .vmem S1x512x1024 .f32) (harg2 : arg2.IsWhole)
  (arg4 : Memref sig .tc .vmem S1x1024 .f32) (harg4 : arg4.IsWhole)
  (arg14 : Memref sig .tc .vmem S2x264x5632 .f32) (harg14 : arg14.IsWhole)
  (arg15 : Memref sig .tc .vmem S1024x5632 .bf16) (harg15 : arg15.IsWhole)
  (x : Vec Ideal S1x512x1024 .f32) (gf : Vec Ideal S1x1024 .f32) (slabs : Vec Ideal S2x264x5632 .f32)
  (wu : Vec Ideal S1024x5632 .bf16)
  (P : Params) (hg : P.gf = fun l => gf (ix2 0 l)) (hw : P.wu = fun k j => wu (ix2 k j))
  (H : Fin 8 → Fin 5632 → EReal) (hH : H = oldRows slabs)

include hg hw in
/-- Every stored column block agrees with the slabs' contents. -/
theorem stored_blocks : ∀ q ∈ compute_run.sl.H14_44 (F := Ideal) c arg2 harg2 arg4 harg4 arg15 harg15 x gf wu,
    ∀ t : q.1.shape.Idx, q.2 t = slabOf P (fun r k => x (ix3 0 r k)) H (q.1.emb t) := by
  unfold compute_run.sl.H14_44
  repeat' refine List.forall_mem_cons.mpr ⟨?_, ?_⟩
  on_goal 45 => exact fun q hq => (List.not_mem_nil hq).elim
  all_goals
    intro t
    refine stored_block arg2 harg2 arg4 harg4 arg15 harg15 x gf wu P hg hw H _ _ _ ?_ _ _ _ ?_ t
    · norm_num
    · decide

/-- Every stored column block starts at row 8 and is 256 rows of 256 columns of one slab. -/
theorem block_sizes : ∀ q ∈ compute_run.sl.H14_44 (F := Ideal) c arg2 harg2 arg4 harg4 arg15 harg15 x gf wu,
    q.1.off = ![q.1.off 0, 8, q.1.off 2] ∧ q.1.size = ![1, 256, 256] ∧ q.1.stride = fun _ => 1 := by
  unfold compute_run.sl.H14_44
  repeat' refine List.forall_mem_cons.mpr ⟨⟨rfl, rfl, rfl⟩, ?_⟩
  exact fun q hq => (List.not_mem_nil hq).elim

/-- The column blocks' slabs and first columns. -/
theorem block_offsets : (compute_run.sl.H14_44 (F := Ideal) c arg2 harg2 arg4 harg4 arg15 harg15 x gf wu).map
      (fun q => (q.1.off 0, q.1.off 2))
    = ((List.range 2).map fun s => (List.range 11).map fun b => [(1 - s, 256 * (21 - b)), (1 - s, 256 * (10 - b))]).flatten.flatten := rfl

/-- An index of a slab from row 8 on lies in a stored column block. -/
theorem mem_block (y : S2x264x5632.Idx) (hy : 8 ≤ (y 1).val) :
    ∃ q ∈ compute_run.sl.H14_44 (F := Ideal) c arg2 harg2 arg4 harg4 arg15 harg15 x gf wu, y ∈ q.1.set := by
  have y0 : (y 0).val < 2 := (y 0).isLt
  have y1 : (y 1).val < 264 := (y 1).isLt
  have y2 : (y 2).val < 5632 := (y 2).isLt
  have all : ∀ s : Fin 2, ∀ b : Fin 22, (s.val, 256 * b.val)
      ∈ ((List.range 2).map fun s => (List.range 11).map fun b => [(1 - s, 256 * (21 - b)), (1 - s, 256 * (10 - b))]).flatten.flatten := by decide
  have hm := all ⟨(y 0).val, y0⟩ ⟨(y 2).val / 256, by omega⟩
  rw [← block_offsets c arg2 harg2 arg4 harg4 arg15 harg15 x gf wu] at hm
  obtain ⟨q, hq, e⟩ := List.mem_map.mp hm
  obtain ⟨eo, es, et⟩ := block_sizes c arg2 harg2 arg4 harg4 arg15 harg15 x gf wu q hq
  have e0 : q.1.off 0 = (y 0).val := congrArg Prod.fst e
  have e2 : q.1.off 2 = 256 * ((y 2).val / 256) := congrArg Prod.snd e
  refine ⟨q, hq, (LoadRect.mem_set _).mpr fun a => ?_⟩
  rw [es, et, eo, e0, e2]
  fin_cases a
  · exact ⟨0, by show 0 < 1; omega, by show (y 0).val = (y 0).val + 1 * 0; omega⟩
  · exact ⟨(y 1).val - 8, by show _ < 256; omega, by show (y 1).val = 8 + 1 * ((y 1).val - 8); omega⟩
  · exact ⟨(y 2).val % 256, by show _ < 256; omega, by show (y 2).val = 256 * ((y 2).val / 256) + 1 * ((y 2).val % 256); omega⟩

/-- No stored column block meets the first eight rows. -/
theorem not_mem_block (y : S2x264x5632.Idx) (hy : (y 1).val < 8) :
    ∀ q ∈ compute_run.sl.H14_44 (F := Ideal) c arg2 harg2 arg4 harg4 arg15 harg15 x gf wu, y ∉ q.1.set := by
  intro q hq hm
  obtain ⟨eo, es, et⟩ := block_sizes c arg2 harg2 arg4 harg4 arg15 harg15 x gf wu q hq
  obtain ⟨j, hj, e⟩ := (LoadRect.mem_set _).mp hm 1
  rw [et, eo] at e
  have : (y 1).val = 8 + 1 * j := e
  omega

include hg hw in
/-- The slabs' contents after the column blocks are stored, from row 8 on. -/
theorem read_blocks (f : arg14.view.ty.Contents (Elt Ideal)) (y : S2x264x5632.Idx) (hy : 8 ≤ (y 1).val) :
    arg14.view.read (Elt Ideal) (arg14.view.writes (Elt Ideal) f
      (compute_run.sl.H14_44 (F := Ideal) c arg2 harg2 arg4 harg4 arg15 harg15 x gf wu)) y
      = slabOf P (fun r k => x (ix3 0 r k)) H y :=
  View.read_writes_apply_of_pieces _ _ _ _
    (stored_blocks c arg2 harg2 arg4 harg4 arg15 harg15 x gf wu P hg hw H) y
    (mem_block c arg2 harg2 arg4 harg4 arg15 harg15 x gf wu y hy)

include hg hw hH in
/-- What the first half's mixing loads. -/
theorem first_rows (q : Fin 264) (j : Fin 5632) :
    compute_run.sl.v260 (F := Ideal) c arg2 harg2 arg4 harg4 arg14 harg14 arg15 harg15 x gf slabs wu (ix3 0 q j)
      = ext P (fun r k => x (ix3 0 r k)) H q.val j := by
  unfold compute_run.sl.v260
  rw [View.readAt_apply]
  have e : (Rect.unit (s := S2x264x5632) ![0, 0, 0] S1x264x5632.size inb_S2x264x5632_S1x264x5632_0_0_0).toLoadRect.idx (ix3 0 q j)
      = ix3 0 q j := funext fun a => by
    fin_cases a <;> [rfl; exact Fin.ext (by show 0 + 1 * q.val = q.val; omega); exact Fin.ext (by show 0 + 1 * j.val = j.val; omega)]
  rw [e]
  by_cases hq : 8 ≤ q.val
  · rw [read_blocks c arg2 harg2 arg4 harg4 arg14 arg15 harg15 x gf wu P hg hw H _ _ hq]
    show ext P _ H (256 * 0 + q.val) j = _
    rw [Nat.mul_zero, Nat.zero_add]
  · rw [View.read_writes_apply_of_forall_not_mem _ _ _ _
      (not_mem_block c arg2 harg2 arg4 harg4 arg15 harg15 x gf wu _ (Nat.lt_of_not_le hq)), harg14.read_unread]
    rw [ext_old P _ H ⟨q.val, Nat.lt_of_not_le hq⟩, hH]
    rfl

include hg hw in
/-- The rows the second half's mixing takes from the first. -/
theorem carried_rows (r : Fin 8) (j : Fin 5632) :
    compute_run.sl.v301 (F := Ideal) c arg2 harg2 arg4 harg4 arg14 arg15 harg15 x gf wu (ix3 0 r j)
      = ext P (fun r k => x (ix3 0 r k)) H (256 + r.val) j := by
  unfold compute_run.sl.v301 View.readCov
  rw [View.readAt_apply]
  have e : (Rect.unit (s := S2x264x5632) ![0, 256, 0] S1x8x5632.size inb_S2x264x5632_S1x8x5632_0_256_0).toLoadRect.idx (ix3 0 r j)
      = ix3 0 ⟨256 + r.val, by omega⟩ j := funext fun a => by
    fin_cases a <;> [rfl; exact Fin.ext (by show 256 + 1 * r.val = 256 + r.val; omega); exact Fin.ext (by show 0 + 1 * j.val = j.val; omega)]
  rw [e, read_blocks c arg2 harg2 arg4 harg4 arg14 arg15 harg15 x gf wu P hg hw H _ _ (by show 8 ≤ 256 + r.val; omega)]
  show ext P _ H (256 * 0 + (256 + r.val)) j = _
  rw [Nat.mul_zero, Nat.zero_add]

include hg hw in
/-- The second slab's contents once the rows carried over are stored too. -/
theorem read_second (f : arg14.view.ty.Contents (Elt Ideal)) (q : Fin 264) (j : Fin 5632) :
    arg14.view.read (Elt Ideal) (arg14.view.writes (Elt Ideal) f
      (compute_run.sl.H14_45 (F := Ideal) c arg2 harg2 arg4 harg4 arg14 arg15 harg15 x gf wu)) (ix3 1 q j)
      = ext P (fun r k => x (ix3 0 r k)) H (256 + q.val) j := by
  refine (View.read_writes_apply_of_pieces _ _ (slabOf P (fun r k => x (ix3 0 r k)) H) _ ?_ (ix3 1 q j) ?_).trans ?_
  · unfold compute_run.sl.H14_45
    refine List.forall_mem_cons.mpr ⟨fun t => ?_, stored_blocks c arg2 harg2 arg4 harg4 arg15 harg15 x gf wu P hg hw H⟩
    obtain ⟨r, l, rfl⟩ : ∃ (r : Fin 8) (l : Fin 5632), t = ix3 0 r l :=
      ⟨t 1, t 2, funext fun a => by fin_cases a <;> [exact Subsingleton.elim (α := Fin 1) _ _; rfl; rfl]⟩
    have e : (Rect.unit (s := S2x264x5632) ![1, 0, 0] S1x8x5632.size inb_S2x264x5632_S1x8x5632_1_0_0).emb (ix3 0 r l)
        = ix3 1 ⟨r.val, by omega⟩ l := funext fun a => by
      fin_cases a <;> [rfl; exact Fin.ext (by show 0 + 1 * r.val = r.val; omega); exact Fin.ext (by show 0 + 1 * l.val = l.val; omega)]
    refine Eq.trans ?_ (congrArg _ e.symm)
    show _ = ext P _ H (256 * 1 + r.val) l
    rw [Nat.mul_one, ← carried_rows c arg2 harg2 arg4 harg4 arg14 arg15 harg15 x gf wu P hg hw H]
    unfold compute_run.sl.r_11
    pointwise [k0_pay124, k0_pay123]
  · unfold compute_run.sl.H14_45
    by_cases hq : 8 ≤ q.val
    · obtain ⟨p, hp, hy⟩ := mem_block c arg2 harg2 arg4 harg4 arg15 harg15 x gf wu (ix3 1 q j) hq
      exact ⟨p, List.mem_cons_of_mem _ hp, hy⟩
    · refine ⟨_, List.mem_cons_self, ?_⟩
      refine (Rect.mem_set_unit (inb := inb_S2x264x5632_S1x8x5632_1_0_0)).mpr fun a => ?_
      have := j.isLt
      fin_cases a
      · exact ⟨Nat.le_refl _, by show 1 < 1 + 1; omega⟩
      · exact ⟨Nat.zero_le _, by show q.val < 0 + 8; omega⟩
      · exact ⟨Nat.zero_le _, by show j.val < 0 + 5632; omega⟩
  · show ext P _ H (256 * 1 + q.val) j = _
    rw [Nat.mul_one]

include hg hw in
/-- What the second half's mixing loads. -/
theorem second_rows (q : Fin 264) (j : Fin 5632) :
    compute_run.sl.v311 (F := Ideal) c arg2 harg2 arg4 harg4 arg14 arg15 harg15 x gf wu (ix3 0 q j)
      = ext P (fun r k => x (ix3 0 r k)) H (256 + q.val) j := by
  unfold compute_run.sl.v311 View.readCov
  rw [View.readAt_apply]
  have e : (Rect.unit (s := S2x264x5632) ![1, 0, 0] S1x264x5632.size inb_S2x264x5632_S1x264x5632_1_0_0).toLoadRect.idx (ix3 0 q j)
      = ix3 1 q j := funext fun a => by
    fin_cases a <;> [rfl; exact Fin.ext (by show 0 + 1 * q.val = q.val; omega); exact Fin.ext (by show 0 + 1 * j.val = j.val; omega)]
  rw [e, read_second c arg2 harg2 arg4 harg4 arg14 arg15 harg15 x gf wu P hg hw H]

include hg hw in
/-- The rows left for the block that follows. -/
theorem left_rows (r : Fin 8) (j : Fin 5632) :
    compute_run.sl.v352 (F := Ideal) c arg2 harg2 arg4 harg4 arg14 arg15 harg15 x gf wu (ix3 0 r j)
      = ext P (fun r k => x (ix3 0 r k)) H (512 + r.val) j := by
  unfold compute_run.sl.v352 View.readCov
  rw [View.readAt_apply]
  have e : (Rect.unit (s := S2x264x5632) ![1, 256, 0] S1x8x5632.size inb_S2x264x5632_S1x8x5632_1_256_0).toLoadRect.idx (ix3 0 r j)
      = ix3 1 ⟨256 + r.val, by omega⟩ j := funext fun a => by
    fin_cases a <;> [rfl; exact Fin.ext (by show 256 + 1 * r.val = 256 + r.val; omega); exact Fin.ext (by show 0 + 1 * j.val = j.val; omega)]
  rw [e, read_second c arg2 harg2 arg4 harg4 arg14 arg15 harg15 x gf wu P hg hw H]
  show ext P _ H (256 + (256 + r.val)) j = _
  rw [← Nat.add_assoc]

end Cert.Kernel.Gen
-- ==== Proof.OutValue.lean ====
module

public import proofs.«01_k».proof.Proof.SlabValue

@[expose] public section

set_option maxRecDepth 16384

noncomputable section

namespace Cert.Kernel.Gen

open Idealize.ShloMosaic Idealize.ShloMosaic.TcCoe Idealize.ShloMosaic.Tactic
open Cert.Ffn

/-- A load of all of a whole buffer reads its contents. -/
theorem readAt_full {sig : RefSig} {κ : Kind} {sp : Space} {s : Shape} {e : EltTy} {Val : EltTy → Type}
    {m : Memref sig κ sp s e} (h : m.IsWhole) (X : s.Idx → Val e) {off : Fin s.rank → ℕ}
    (inb : ∀ a, off a + s.size a ≤ s.size a) :
    View.readAt Val m.view (Rect.unit off s.size inb).toLoadRect (h.unread X) = X := by
  funext z
  rw [h.readAt_unread]
  exact congrArg X (funext fun a => Fin.ext (by
    show off a + 1 * (z a).val = (z a).val
    have := inb a; omega))

/-- One half's rows after the mixing, the gate and the projection down, at an index: `e` numbers the projected rows. -/
theorem half_mid (P : Params) (e : ℕ → Fin 5632 → EReal) (v : Vec Ideal S1x264x5632 .f32) (cb : Vec Ideal S1x5632 .f32)
    (w0 w1 w2 : Vec Ideal S1x1x5632 .f32) (xr : Vec Ideal S1x256x1024 .f32) (wd : Vec Ideal S2816x1024 .bf16)
    (hv : ∀ (q : Fin 264) (j : Fin 5632), v (ix3 0 q j) = e q.val j)
    (hcb : ∀ j, P.cb j = cb (ix2 0 j)) (h0 : ∀ j, P.cw 0 j = w0 (ix3 0 0 j)) (h1 : ∀ j, P.cw 1 j = w1 (ix3 0 0 j))
    (h2 : ∀ j, P.cw 2 j = w2 (ix3 0 0 j)) (hwd : ∀ k l, P.wd k l = wd (ix2 k l)) (r : Fin 256) (l : Fin 1024) :
    (k0_pay125 (F := Ideal) (k0_pay122 (k0_pay121 v) cb w0 w1 w2) xr wd (ix2 r l) : EReal)
      = mid P (fun k => xr (ix3 0 r k)) (e (r.val + 6)) (e (r.val + 7)) (e (r.val + 8)) l := by
  have m2 : (r.val + 8 + 264 - 2) % 264 = r.val + 6 := by omega
  have m1 : (r.val + 8 + 264 - 1) % 264 = r.val + 7 := by omega
  have m0 : 8 + r.val = r.val + 8 := by omega
  pointwise [k0_pay125]
  unfold mid act gelu mix
  simp only [hcb, h0, h1, h2, hwd]
  congr 1
  refine Finset.sum_congr rfl fun k _ => ?_
  congr 1
  pointwise [k0_pay122, k0_pay121]
  simp only [hv, m0, m1, m2]

/-- One half's rows of the result, at an index. -/
theorem half_out (P : Params) (y : FVec Ideal S256x1024 .f32) (gp gl : Vec Ideal S1x1024 .f32)
    (wg : Vec Ideal S1024x1024 .bf16) (p : Vec Ideal S1x1x256x256 .f32) (wj : Vec Ideal S256x1024 .bf16)
    (hgp : P.gp = fun l => gp (ix2 0 l)) (hgl : P.gl = fun l => gl (ix2 0 l)) (hwg : P.wg = fun k l => wg (ix2 k l))
    (hwj : P.wj = fun k l => wj (ix2 k l)) (r : Fin 256) (l : Fin 1024) :
    (k0_pay132 (F := Ideal) y (k0_pay131 y gp) wg p wj gl (ix3 0 r l) : EReal)
      = rmsRow (gated P (fun k => y (ix2 r k)) (fun k => p (ix4 0 0 r k))) P.gl l := by
  unfold gated
  rw [hgl, hgp, hwg, hwj]
  pointwise [k0_pay132, k0_pay131]
  rfl

/-- Loaded rows of the block of tokens. -/
theorem load_row (m : Memref sig .tc .vmem S1x512x1024 .f32) (h : m.IsWhole) (X : Vec Ideal S1x512x1024 .f32) (o : ℕ)
    (inb : ∀ a, (![0, o, 0] : Fin 3 → ℕ) a + S1x256x1024.size a ≤ S1x512x1024.size a) (r : Fin 256) (k : Fin 1024)
    (hr : o + r.val < 512) :
    View.readAt (Elt Ideal) m.view (Rect.unit (s := S1x512x1024) ![0, o, 0] S1x256x1024.size inb).toLoadRect (h.unread X) (ix3 0 r k)
      = X (ix3 0 ⟨o + r.val, hr⟩ k) := by
  rw [h.readAt_unread]
  exact congrArg X (funext fun a => by
    fin_cases a <;> [rfl; exact Fin.ext (by show o + 1 * r.val = o + r.val; omega); exact Fin.ext (by show 0 + 1 * k.val = k.val; omega)])

/-- Loaded rows of the block of embeddings. -/
theorem load_emb (m : Memref sig .tc .vmem S1x1x512x256 .f32) (h : m.IsWhole) (X : Vec Ideal S1x1x512x256 .f32) (o : ℕ)
    (inb : ∀ a, (![0, 0, o, 0] : Fin 4 → ℕ) a + S1x1x256x256.size a ≤ S1x1x512x256.size a) (r k : Fin 256)
    (hr : o + r.val < 512) :
    View.readAt (Elt Ideal) m.view (Rect.unit (s := S1x1x512x256) ![0, 0, o, 0] S1x1x256x256.size inb).toLoadRect (h.unread X) (ix4 0 0 r k)
      = X (ix4 0 0 ⟨o + r.val, hr⟩ k) := by
  rw [h.readAt_unread]
  exact congrArg X (funext fun a => by
    fin_cases a <;> [rfl; rfl; exact Fin.ext (by show o + 1 * r.val = o + r.val; omega); exact Fin.ext (by show 0 + 1 * k.val = k.val; omega)])

/-- A loaded tap of the mixing. -/
theorem load_tap (m : Memref sig .tc .vmem S1x3x5632 .f32) (h : m.IsWhole) (X : Vec Ideal S1x3x5632 .f32) (o : Fin 3)
    (inb : ∀ a, (![0, o.val, 0] : Fin 3 → ℕ) a + S1x1x5632.size a ≤ S1x3x5632.size a) (j : Fin 5632) :
    X (ix3 0 o j) = View.readAt (Elt Ideal) m.view (Rect.unit (s := S1x3x5632) ![0, o.val, 0] S1x1x5632.size inb).toLoadRect (h.unread X) (ix3 0 0 j) := by
  rw [h.readAt_unread]
  exact congrArg X (funext fun a => by
    fin_cases a <;> [rfl; exact Fin.ext (by show o.val = o.val + 1 * 0; omega); exact Fin.ext (by show j.val = 0 + 1 * j.val; omega)])

variable (c : Dev nD) (i : grid0.Coords) (arg2 : Memref sig .tc .vmem S1x512x1024 .f32) (harg2 : arg2.IsWhole)
  (arg3 : Memref sig .tc .vmem S1x1x512x256 .f32) (harg3 : arg3.IsWhole)
  (arg4 : Memref sig .tc .vmem S1x1024 .f32) (harg4 : arg4.IsWhole)
  (arg6 : Memref sig .tc .vmem S1x3x5632 .f32) (harg6 : arg6.IsWhole)
  (arg7 : Memref sig .tc .vmem S1x5632 .f32) (harg7 : arg7.IsWhole)
  (arg9 : Memref sig .tc .vmem S1x1024 .f32) (harg9 : arg9.IsWhole)
  (arg12 : Memref sig .tc .vmem S1x1024 .f32) (harg12 : arg12.IsWhole)
  (arg13 : Memref sig .tc .vmem S1x512x1024 .f32) (harg13 : arg13.IsWhole)
  (arg14 : Memref sig .tc .vmem S2x264x5632 .f32) (harg14 : arg14.IsWhole)
  (arg15 : Memref sig .tc .vmem S1024x5632 .bf16) (harg15 : arg15.IsWhole)
  (arg16 : Memref sig .tc .vmem S2816x1024 .bf16) (harg16 : arg16.IsWhole)
  (arg17 : Memref sig .tc .vmem S1024x1024 .bf16) (harg17 : arg17.IsWhole)
  (arg18 : Memref sig .tc .vmem S256x1024 .bf16) (harg18 : arg18.IsWhole)
  (arg19 : Memref sig .tc .vmem S4x32x5632 .f32) (harg19 : arg19.IsWhole)
  (arg20 : Memref sig .tc .vmem S4x176x1024 .f32) (harg20 : arg20.IsWhole)
  (x : Vec Ideal S1x512x1024 .f32) (p : Vec Ideal S1x1x512x256 .f32) (gf : Vec Ideal S1x1024 .f32) (cw : Vec Ideal S1x3x5632 .f32) (cb : Vec Ideal S1x5632 .f32) (gp : Vec Ideal S1x1024 .f32) (gl : Vec Ideal S1x1024 .f32) (slabs : Vec Ideal S2x264x5632 .f32) (wu : Vec Ideal S1024x5632 .bf16) (wd : Vec Ideal S2816x1024 .bf16) (wg : Vec Ideal S1024x1024 .bf16) (wj : Vec Ideal S256x1024 .bf16)

/-- The first half's rows before the last gate. -/
theorem first_mid (r : Fin 256) (l : Fin 1024) :
    compute_run.sl.r_12 (F := Ideal) c arg2 harg2 arg4 harg4 arg6 harg6 arg7 harg7 arg14 harg14 arg15 harg15 arg16 harg16 x gf cw cb slabs wu wd (ix2 r l)
      = mid (params cw cb gf gp gl wu wd wg wj) (fun k => x (ix3 0 ⟨r.val, by omega⟩ k))
          (ext (params cw cb gf gp gl wu wd wg wj) (fun r k => x (ix3 0 r k)) (oldRows slabs) (r.val + 6))
          (ext (params cw cb gf gp gl wu wd wg wj) (fun r k => x (ix3 0 r k)) (oldRows slabs) (r.val + 7))
          (ext (params cw cb gf gp gl wu wd wg wj) (fun r k => x (ix3 0 r k)) (oldRows slabs) (r.val + 8)) l := by
  refine (half_mid (params cw cb gf gp gl wu wd wg wj) (ext (params cw cb gf gp gl wu wd wg wj) (fun r k => x (ix3 0 r k)) (oldRows slabs))
    _ _ _ _ _ _ _
    (fun q j => first_rows c arg2 harg2 arg4 harg4 arg14 harg14 arg15 harg15 x gf slabs wu (params cw cb gf gp gl wu wd wg wj) rfl rfl _ rfl q j)
    (fun j => (congrFun (readAt_full harg7 cb _) (ix2 0 j)).symm)
    (load_tap arg6 harg6 cw 0 _) (load_tap arg6 harg6 cw 1 _) (load_tap arg6 harg6 cw 2 _)
    (fun k l => (congrFun (readAt_full harg16 wd _) (ix2 k l)).symm) r l).trans ?_
  congr 1
  funext k
  rw [load_row arg2 harg2 x 0 _ r k (by omega)]
  exact congrArg (fun r => x (ix3 0 r k)) (Fin.ext (Nat.zero_add _))

/-- The second half's rows before the last gate. -/
theorem second_mid (r : Fin 256) (l : Fin 1024) :
    compute_run.sl.r_16 (F := Ideal) c arg2 harg2 arg4 harg4 arg6 harg6 arg7 harg7 arg14 arg15 harg15 arg16 harg16 x gf cw cb wu wd (ix2 r l)
      = mid (params cw cb gf gp gl wu wd wg wj) (fun k => x (ix3 0 ⟨256 + r.val, by omega⟩ k))
          (ext (params cw cb gf gp gl wu wd wg wj) (fun r k => x (ix3 0 r k)) (oldRows slabs) (256 + r.val + 6))
          (ext (params cw cb gf gp gl wu wd wg wj) (fun r k => x (ix3 0 r k)) (oldRows slabs) (256 + r.val + 7))
          (ext (params cw cb gf gp gl wu wd wg wj) (fun r k => x (ix3 0 r k)) (oldRows slabs) (256 + r.val + 8)) l := by
  refine (half_mid (params cw cb gf gp gl wu wd wg wj) (fun n => ext (params cw cb gf gp gl wu wd wg wj) (fun r k => x (ix3 0 r k)) (oldRows slabs) (256 + n))
    _ _ _ _ _ _ _
    (fun q j => second_rows c arg2 harg2 arg4 harg4 arg14 arg15 harg15 x gf wu (params cw cb gf gp gl wu wd wg wj) rfl rfl _ q j)
    (fun j => (congrFun (readAt_full harg7 cb _) (ix2 0 j)).symm)
    (load_tap arg6 harg6 cw 0 _) (load_tap arg6 harg6 cw 1 _) (load_tap arg6 harg6 cw 2 _)
    (fun k l => (congrFun (readAt_full harg16 wd _) (ix2 k l)).symm) r l).trans ?_
  congr 1
  funext k
  rw [load_row arg2 harg2 x 256 _ r k (by omega)]

/-- The block of the result, given the rows `H` of the slabs it meets first. -/
def blockOf (P : Params) (x : Vec Ideal S1x512x1024 .f32) (p : Vec Ideal S1x1x512x256 .f32) (H : Fin 8 → Fin 5632 → EReal)
    (y : S1x512x1024.Idx) : EReal :=
  outRow P (fun k => x (ix3 0 (y 1) k)) (fun k => p (ix4 0 0 (y 1) k))
    (ext P (fun r k => x (ix3 0 r k)) H ((y 1).val + 6)) (ext P (fun r k => x (ix3 0 r k)) H ((y 1).val + 7))
    (ext P (fun r k => x (ix3 0 r k)) H ((y 1).val + 8)) (y 2)

/-- The stores into the output block leave the block of the result. -/
theorem out_read (f : arg13.view.ty.Contents (Elt Ideal)) :
    arg13.view.read (Elt Ideal) (arg13.view.writes (Elt Ideal) f (compute_run (F := Ideal) c i arg2 harg2 arg3 harg3 arg4 harg4 arg6 harg6 arg7 harg7 arg9 harg9 arg12 harg12 arg13 harg13 arg14 harg14 arg15 harg15 arg16 harg16 arg17 harg17 arg18 harg18 arg19 harg19 arg20 harg20 x p gf cw cb gp gl slabs wu wd wg wj).1)
      = blockOf (params cw cb gf gp gl wu wd wg wj) x p (oldRows slabs) := by
  funext y
  refine View.read_writes_apply_of_pieces _ _ _ _ ?_ y ?_
  · unfold compute_run
    dsimp only
    refine List.forall_mem_cons.mpr ⟨fun t => ?_, List.forall_mem_cons.mpr ⟨fun t => ?_, fun q hq => (List.not_mem_nil hq).elim⟩⟩
    all_goals
      obtain ⟨r, l, rfl⟩ : ∃ (r : Fin 256) (l : Fin 1024), t = ix3 0 r l :=
        ⟨t 1, t 2, funext fun a => by fin_cases a <;> [exact Subsingleton.elim (α := Fin 1) _ _; rfl; rfl]⟩
    · refine (half_out (params cw cb gf gp gl wu wd wg wj) _ _ _ _ _ _ (funext fun l => (congrFun (readAt_full harg9 gp _) (ix2 0 l)).symm)
        (funext fun l => (congrFun (readAt_full harg12 gl _) (ix2 0 l)).symm) (funext fun k => funext fun l => (congrFun (readAt_full harg17 wg _) (ix2 k l)).symm)
        (funext fun k => funext fun l => (congrFun (readAt_full harg18 wj _) (ix2 k l)).symm) r l).trans ?_
      have e : (Rect.unit (s := S1x512x1024) ![0, 256, 0] ![1, 256, 1024] inb_S1x512x1024_S1x256x1024_0_256_0).emb (ix3 0 r l)
          = ix3 0 ⟨256 + r.val, by omega⟩ l := funext fun a => by
        fin_cases a <;> [rfl; exact Fin.ext (by show 256 + 1 * r.val = 256 + r.val; omega); exact Fin.ext (by show 0 + 1 * l.val = l.val; omega)]
      refine Eq.trans ?_ (congrArg _ e.symm)
      unfold blockOf outRow
      congr 2
      · exact funext fun k => second_mid c arg2 harg2 arg4 harg4 arg6 harg6 arg7 harg7 arg14 arg15 harg15 arg16 harg16 x gf cw cb gp gl slabs wu wd wg wj r k
      · exact funext fun k => load_emb arg3 harg3 p 256 _ r k (by omega)
    · refine (half_out (params cw cb gf gp gl wu wd wg wj) _ _ _ _ _ _ (funext fun l => (congrFun (readAt_full harg9 gp _) (ix2 0 l)).symm)
        (funext fun l => (congrFun (readAt_full harg12 gl _) (ix2 0 l)).symm) (funext fun k => funext fun l => (congrFun (readAt_full harg17 wg _) (ix2 k l)).symm)
        (funext fun k => funext fun l => (congrFun (readAt_full harg18 wj _) (ix2 k l)).symm) r l).trans ?_
      have e : (Rect.unit (s := S1x512x1024) ![0, 0, 0] ![1, 256, 1024] inb_S1x512x1024_S1x256x1024_0_0_0).emb (ix3 0 r l)
          = ix3 0 ⟨r.val, by omega⟩ l := funext fun a => by
        fin_cases a <;> [rfl; exact Fin.ext (by show 0 + 1 * r.val = r.val; omega); exact Fin.ext (by show 0 + 1 * l.val = l.val; omega)]
      refine Eq.trans ?_ (congrArg _ e.symm)
      unfold blockOf outRow
      congr 2
      · exact funext fun k => first_mid c arg2 harg2 arg4 harg4 arg6 harg6 arg7 harg7 arg14 harg14 arg15 harg15 arg16 harg16 x gf cw cb gp gl slabs wu wd wg wj r k
      · exact funext fun k => (load_emb arg3 harg3 p 0 _ r k (by omega)).trans
          (congrArg (fun r => p (ix4 0 0 r k)) (Fin.ext (Nat.zero_add _)))
  · unfold compute_run
    dsimp only
    have y0 : (y 0).val < 1 := (y 0).isLt
    have y1 : (y 1).val < 512 := (y 1).isLt
    have y2 : (y 2).val < 1024 := (y 2).isLt
    by_cases hy : 256 ≤ (y 1).val
    · refine ⟨_, List.mem_cons_self, ?_⟩
      refine (Rect.mem_set_unit (inb := inb_S1x512x1024_S1x256x1024_0_256_0)).mpr fun a => ?_
      fin_cases a
      · exact ⟨Nat.zero_le _, by show (y 0).val < 0 + 1; omega⟩
      · exact ⟨hy, by show (y 1).val < 256 + 256; omega⟩
      · exact ⟨Nat.zero_le _, by show (y 2).val < 0 + 1024; omega⟩
    · refine ⟨_, List.mem_cons_of_mem _ List.mem_cons_self, ?_⟩
      refine (Rect.mem_set_unit (inb := inb_S1x512x1024_S1x256x1024_0_0_0)).mpr fun a => ?_
      fin_cases a
      · exact ⟨Nat.zero_le _, by show (y 0).val < 0 + 1; omega⟩
      · exact ⟨Nat.zero_le _, by show (y 1).val < 0 + 256; omega⟩
      · exact ⟨Nat.zero_le _, by show (y 2).val < 0 + 1024; omega⟩

/-- The stores into the slabs leave the block's last projected rows first. -/
theorem slabs_read (r : Fin 8) (j : Fin 5632) :
    arg14.view.read (Elt Ideal) (arg14.view.writes (Elt Ideal) (harg14.unread slabs) (compute_run (F := Ideal) c i arg2 harg2 arg3 harg3 arg4 harg4 arg6 harg6 arg7 harg7 arg9 harg9 arg12 harg12 arg13 harg13 arg14 harg14 arg15 harg15 arg16 harg16 arg17 harg17 arg18 harg18 arg19 harg19 arg20 harg20 x p gf cw cb gp gl slabs wu wd wg wj).2.1)
        (ix3 0 ⟨r.val, by omega⟩ j)
      = up (params cw cb gf gp gl wu wd wg wj) (fun k => x (ix3 0 ⟨504 + r.val, by omega⟩ k)) j := by
  unfold compute_run
  dsimp only
  have e : (Rect.unit (s := S2x264x5632) ![0, 0, 0] S1x8x5632.size inb_S2x264x5632_S1x8x5632_0_0_0).emb (ix3 0 r j)
      = ix3 0 ⟨r.val, by omega⟩ j := funext fun a => by
    fin_cases a <;> [rfl; exact Fin.ext (by show 0 + 1 * r.val = r.val; omega); exact Fin.ext (by show 0 + 1 * j.val = j.val; omega)]
  rw [← e, View.read_writes_cons_emb]
  refine Eq.trans ?_ ((left_rows c arg2 harg2 arg4 harg4 arg14 arg15 harg15 x gf wu (params cw cb gf gp gl wu wd wg wj) rfl rfl
    (oldRows slabs) r j).trans ?_)
  · pointwise [k0_pay129]
  · exact ext_new _ _ _ _ ⟨504 + r.val, by omega⟩ (by show 512 + r.val = 8 + (504 + r.val); omega) j

end Cert.Kernel.Gen
-- ==== Proof.Arrays.lean ====
module

public import proofs.«01_k».proof.Proof.WeightsValue
public import proofs.«01_k».proof.Proof.OutValue
public import proofs.«01_k».proof.Proof.Setup
public import Idealize.ShloMosaic.Lib.Pointwise
public import Idealize.ShloMosaic.Lib.Pipeline.ValueKit

@[expose] public section

set_option maxRecDepth 16384

noncomputable section

namespace Cert.Kernel.Gen

open Idealize.ShloMosaic Idealize.ShloMosaic.TcCoe Idealize.ShloMosaic.Tactic
open Idealize.ShloMosaic.Pipeline
open Cert.Ffn

/-!
What the kernel's inputs are, by index, in terms of the arrays it is launched with: the windows' blocks and the weights in
their scratch, over the extended reals.
-/

theorem upW_apply (c : Dev nD) (fh : HbBuf0 (F := Ideal) c hbM0_0) (k : Fin 1024) (j : Fin 5632) :
    upW (F := Ideal) c fh (ix2 k j) = fh (ix3 0 k j) := by
  unfold upW
  rw [Memref.read_squeeze_slice hbM0_0 _ _ _ (by decide)]
  pointwise []
  rw [View.readAt_apply]
  exact congrArg fh (funext fun a => by
    fin_cases a <;> [rfl; exact Fin.ext (by show 0 + 1 * k.val = k.val; omega); exact Fin.ext (by show 0 + 1 * j.val = j.val; omega)])

theorem downW_apply (c : Dev nD) (fh : HbBuf0 (F := Ideal) c hbM0_1) (k : Fin 2816) (j : Fin 1024) :
    downW (F := Ideal) c fh (ix2 k j) = fh (ix3 0 k j) := by
  unfold downW
  rw [Memref.read_squeeze_slice hbM0_1 _ _ _ (by decide)]
  pointwise []
  rw [View.readAt_apply]
  exact congrArg fh (funext fun a => by
    fin_cases a <;> [rfl; exact Fin.ext (by show 0 + 1 * k.val = k.val; omega); exact Fin.ext (by show 0 + 1 * j.val = j.val; omega)])

theorem gateW_apply (c : Dev nD) (fh : HbBuf0 (F := Ideal) c hbM0_2) (k j : Fin 1024) :
    gateW (F := Ideal) c fh (ix2 k j) = fh (ix3 0 k j) := by
  unfold gateW
  rw [Memref.read_squeeze_slice hbM0_2 _ _ _ (by decide)]
  pointwise []
  rw [View.readAt_apply]
  exact congrArg fh (funext fun a => by
    fin_cases a <;> [rfl; exact Fin.ext (by show 0 + 1 * k.val = k.val; omega); exact Fin.ext (by show 0 + 1 * j.val = j.val; omega)])

theorem projW_apply (c : Dev nD) (fh : HbBuf0 (F := Ideal) c hbM0_3) (k : Fin 256) (j : Fin 1024) :
    projW (F := Ideal) c fh (ix2 k j) = fh (ix3 0 k j) := by
  unfold projW
  rw [Memref.read_squeeze_slice hbM0_3 _ _ _ (by decide)]
  pointwise []
  rw [View.readAt_apply]
  exact congrArg fh (funext fun a => by
    fin_cases a <;> [rfl; exact Fin.ext (by show 0 + 1 * k.val = k.val; omega); exact Fin.ext (by show 0 + 1 * j.val = j.val; omega)])

variable (m : (ℓ : Loc nD τ sig) → Buf (Elt Ideal) ℓ) (c : Dev nD)

/-- The weights, as the kernel's arguments hold them. -/
def weights : Params where
  gf l := m ((c : Thread nD τ).loc main_arg2) (ix2 0 l)
  gp l := m ((c : Thread nD τ).loc main_arg7) (ix2 0 l)
  gl l := m ((c : Thread nD τ).loc main_arg10) (ix1 l)
  cw k j := m ((c : Thread nD τ).loc main_arg4) (ix3 0 k j)
  cb j := m ((c : Thread nD τ).loc main_arg5) (ix2 0 j)
  wu k j := m ((c : Thread nD τ).loc main_arg3) (ix3 0 k j)
  wd k j := m ((c : Thread nD τ).loc main_arg6) (ix3 0 k j)
  wg k j := m ((c : Thread nD τ).loc main_arg8) (ix3 0 k j)
  wj k j := m ((c : Thread nD τ).loc main_arg9) (ix3 0 k j)

/-- The rows of sequence `b`. -/
def tokens (b : Fin 2) (n : Fin 8192) (k : Fin 1024) : EReal := m ((c : Thread nD τ).loc main_arg0) (ix3 b n k)

/-- The embeddings of sequence `b`. -/
def embs (b : Fin 2) (n : Fin 8192) (k : Fin 256) : EReal := m ((c : Thread nD τ).loc main_arg1) (ix4 0 b n k)

/-- The last scale, reshaped before the kernel. -/
theorem V_last_scale (l : Fin 1024) : V m c main_v0 (ix2 0 l) = m ((c : Thread nD τ).loc main_arg10) (ix1 l) := by
  have e : V m c main_v0 = shapeCast S1x1024 (m ((c : Thread nD τ).loc main_arg10)) shapeCasts_S1024_S1x1024 := by
    show StableHlo.after hostOps0 _ _ = _
    unfold hostOps0
    rw [StableHlo.after_cons, StableHlo.after_nil]
    exact StableHlo.reshape_result' ..
  rw [e]
  pointwise []

theorem index0 : ∀ t : Fin cfg0.N, win0_0.index t = ![t.val / 16, t.val % 16, 0] := (by decide +kernel : ∀ t : Fin grid0.N, win0_0.index t = ![t.val / 16, t.val % 16, 0])
theorem index1 : ∀ t : Fin cfg0.N, win0_1.index t = ![0, t.val / 16, t.val % 16, 0] := (by decide +kernel : ∀ t : Fin grid0.N, win0_1.index t = ![0, t.val / 16, t.val % 16, 0])
theorem index2 : ∀ t : Fin cfg0.N, win0_2.index t = ![0, 0] := (by decide +kernel : ∀ t : Fin grid0.N, win0_2.index t = ![0, 0])
theorem index3 : ∀ t : Fin cfg0.N, win0_3.index t = ![0, 0, 0] := (by decide +kernel : ∀ t : Fin grid0.N, win0_3.index t = ![0, 0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index7 : ∀ t : Fin cfg0.N, win0_7.index t = ![t.val / 16, t.val % 16, 0] := (by decide +kernel : ∀ t : Fin grid0.N, win0_7.index t = ![t.val / 16, t.val % 16, 0])

theorem points (t : Fin cfg0.N) : t.val < 32 := lt_of_lt_of_eq t.isLt (show cfg0.N = 32 from N_0)

/-- Point `t`'s batch entry. -/
def batch (t : Fin cfg0.N) : Fin 2 := ⟨t.val / 16, by have := points t; omega⟩

/-- Row `r` of point `t`'s block, in its sequence. -/
def row (t : Fin cfg0.N) (r : Fin 512) : Fin 8192 := ⟨512 * (t.val % 16) + r.val, by omega⟩

theorem block_token (t : Fin cfg0.N) (r : Fin 512) (k : Fin 1024) :
    iblk m c 0 t (ix3 0 r k) = tokens m c (batch t) (row t r) k := by
  unfold tokens
  rw [← V_main_arg0 m c]
  blk_simp [iblk]
  refine congrArg (V m c main_arg0) ?_
  blk_ext [index0, batch, row, ix3]

theorem block_emb (t : Fin cfg0.N) (r : Fin 512) (k : Fin 256) :
    iblk m c 1 t (ix4 0 0 r k) = embs m c (batch t) (row t r) k := by
  unfold embs
  rw [← V_main_arg1 m c]
  blk_simp [iblk]
  refine congrArg (V m c main_arg1) ?_
  blk_ext [index1, batch, row, ix4]

/-- The weights the body computes with are the arguments'. -/
theorem params_eq (t : Fin cfg0.N) :
    params (iblk m c 3 t) (iblk m c 4 t) (iblk m c 2 t) (iblk m c 5 t) (iblk m c 6 t) (upW c (V m c main_arg3)) (downW c (V m c main_arg6)) (gateW c (V m c main_arg8)) (projW c (V m c main_arg9))
      = weights m c := by
  unfold params weights
  congr 1
  · funext l
    rw [← V_main_arg2 m c]
    blk_simp [iblk]
    refine congrArg (V m c main_arg2) ?_
    blk_ext [index2, ix2]
  · funext l
    rw [← V_main_arg7 m c]
    blk_simp [iblk]
    refine congrArg (V m c main_arg7) ?_
    blk_ext [index5, ix2]
  · funext l
    rw [← V_last_scale m c]
    blk_simp [iblk]
    refine congrArg (V m c main_v0) ?_
    blk_ext [index6, ix2]
  · funext k l
    rw [← V_main_arg4 m c]
    blk_simp [iblk]
    refine congrArg (V m c main_arg4) ?_
    blk_ext [index3, ix3]
  · funext l
    rw [← V_main_arg5 m c]
    blk_simp [iblk]
    refine congrArg (V m c main_arg5) ?_
    blk_ext [index4, ix2]
  · funext k j; rw [upW_apply, V_main_arg3]
  · funext k j; rw [downW_apply, V_main_arg6]
  · funext k j; rw [gateW_apply, V_main_arg8]
  · funext k j; rw [projW_apply, V_main_arg9]

end Cert.Kernel.Gen
-- ==== Proof.Blocks.lean ====
module

public import proofs.«01_k».proof.Proof.Rows

@[expose] public section

noncomputable section

namespace Cert.Ffn

open Idealize.ShloMosaic

/-!
From blocks to sequences: the rows a block of 512 tokens meets are the rows its sequence's tokens meet, when the eight rows
before the block are the last eight of the block before it, and zero before the first block.
-/

/-- Rows `6` and on that block `s` meets are the sequence's, from position `512 s` on. -/
theorem ext_past (P : Params) (X : Fin 8192 → Fin 1024 → EReal) (s : ℕ) (hs : s < 16) (xs : Fin 512 → Fin 1024 → EReal)
    (hx : ∀ r : Fin 512, xs r = X ⟨512 * s + r.val, by omega⟩) (H : Fin 8 → Fin 5632 → EReal)
    (h0 : s = 0 → ∀ r j, H r j = 0)
    (h1 : ∀ h : 0 < s, ∀ (r : Fin 8) j, H r j = up P (X ⟨512 * (s - 1) + (504 + r.val), by omega⟩) j)
    (n q : ℕ) (hq : q = 512 * s + n) (hn : n < 514) : ext P xs H (n + 6) = past P X q := by
  subst hq
  funext j
  unfold ext past
  by_cases h8 : n + 6 < 8
  · rw [dif_pos h8]
    by_cases hz : s = 0
    · rw [dif_neg (by omega), h0 hz]
    · rw [dif_pos ⟨by omega, by omega⟩, h1 (by omega)]
      congr 2
      exact Fin.ext (by show 512 * (s - 1) + (504 + (n + 6)) = 512 * s + n - 2; omega)
  · rw [dif_neg h8, dif_pos (by omega), dif_pos ⟨by omega, by omega⟩, hx]
    congr 2
    exact Fin.ext (by show 512 * s + (n + 6 - 8) = 512 * s + n - 2; omega)

end Cert.Ffn

end
-- ==== Proof.KernelValue.lean ====
module

public import proofs.«01_k».proof.Proof.Launch
public import proofs.«01_k».proof.Proof.Arrays
public import proofs.«01_k».proof.Proof.Blocks

@[expose] public section

set_option maxRecDepth 16384

noncomputable section

namespace Cert.Kernel.Gen

open Idealize.ShloMosaic Idealize.ShloMosaic.TcCoe Idealize.ShloMosaic.Tactic
open Idealize.ShloMosaic.Pipeline
open Idealize.SL.Sem
open Cert.Ffn

/-!
The kernel's result, by index, over the extended reals: the launch's relation from point to point determines the carried
rows, so every block of the result is the sequence's rows.
-/

section Point

variable (c : Dev nD) (i : grid0.Coords) (arg2 : Memref sig .tc .vmem S1x512x1024 .f32) (harg2 : arg2.IsWhole)
  (arg3 : Memref sig .tc .vmem S1x1x512x256 .f32) (harg3 : arg3.IsWhole)
  (arg4 : Memref sig .tc .vmem S1x1024 .f32) (harg4 : arg4.IsWhole)
  (arg6 : Memref sig .tc .vmem S1x3x5632 .f32) (harg6 : arg6.IsWhole)
  (arg7 : Memref sig .tc .vmem S1x5632 .f32) (harg7 : arg7.IsWhole)
  (arg9 : Memref sig .tc .vmem S1x1024 .f32) (harg9 : arg9.IsWhole)
  (arg12 : Memref sig .tc .vmem S1x1024 .f32) (harg12 : arg12.IsWhole)
  (arg13 : Memref sig .tc .vmem S1x512x1024 .f32) (harg13 : arg13.IsWhole)
  (arg14 : Memref sig .tc .vmem S2x264x5632 .f32) (harg14 : arg14.IsWhole)
  (arg15 : Memref sig .tc .vmem S1024x5632 .bf16) (harg15 : arg15.IsWhole)
  (arg16 : Memref sig .tc .vmem S2816x1024 .bf16) (harg16 : arg16.IsWhole)
  (arg17 : Memref sig .tc .vmem S1024x1024 .bf16) (harg17 : arg17.IsWhole)
  (arg18 : Memref sig .tc .vmem S256x1024 .bf16) (harg18 : arg18.IsWhole)
  (arg19 : Memref sig .tc .vmem S4x32x5632 .f32) (harg19 : arg19.IsWhole)
  (arg20 : Memref sig .tc .vmem S4x176x1024 .f32) (harg20 : arg20.IsWhole)
  (s s' : Vec Ideal S2x264x5632 .f32)

/-- At a sequence's first block the carried rows are cleared. -/
theorem starts_first (h : cond0_1 i) (hs : Starts c i arg2 harg2 arg3 harg3 arg4 harg4 arg6 harg6 arg7 harg7 arg9 harg9 arg12 harg12 arg13 harg13 arg14 harg14 arg15 harg15 arg16 harg16 arg17 harg17 arg18 harg18 arg19 harg19 arg20 harg20 s s') (r : Fin 8) (j : Fin 5632) :
    oldRows s' r j = 0 := by
  rw [hs.1 h]
  unfold oldRows halo_run
  dsimp only
  have e : (Rect.unit (s := S2x264x5632) ![0, 0, 0] S1x8x5632.size inb_S2x264x5632_S1x8x5632_0_0_0).emb (ix3 0 r j)
      = ix3 0 ⟨r.val, by omega⟩ j := funext fun a => by
    fin_cases a <;> [rfl; exact Fin.ext (by show 0 + 1 * r.val = r.val; omega); exact Fin.ext (by show 0 + 1 * j.val = j.val; omega)]
  rw [← e, View.read_writes_cons_emb]
  pointwise [k0_pay65]

/-- Elsewhere they are the ones the point before left. -/
theorem starts_later (h : ¬cond0_1 i) (hs : Starts c i arg2 harg2 arg3 harg3 arg4 harg4 arg6 harg6 arg7 harg7 arg9 harg9 arg12 harg12 arg13 harg13 arg14 harg14 arg15 harg15 arg16 harg16 arg17 harg17 arg18 harg18 arg19 harg19 arg20 harg20 s s') : s' = s := hs.2 h

end Point

variable (m : (ℓ : Loc nD τ sig) → Buf (Elt Ideal) ℓ) (ρ : Dev nD → PrngReg) (c : Dev nD)

/-- The rows a point leaves for the next: its block's last eight, projected. -/
theorem step_rows (t : Fin cfg0.N) (s : Vec Ideal S2x264x5632 .f32) (X : Vec Ideal S1x512x1024 .f32) (s' : Vec Ideal S2x264x5632 .f32)
    (h : StepsAt m c t s X s') (r : Fin 8) (j : Fin 5632) :
    oldRows s' r j = up (weights m c) (tokens m c (batch t) (row t ⟨504 + r.val, by omega⟩)) j := by
  obtain ⟨s₁, f, -, -, rfl⟩ := h
  unfold oldRows
  rw [slabs_read, params_eq]
  exact congrArg (fun v => up (weights m c) v j) (funext fun k => block_token m c t _ k)

/-- Before a point that is not the first, the carried rows are the point before's. -/
theorem held_rows (n : ℕ) (hn : n < cfg0.N) (s : Vec Ideal S2x264x5632 .f32) (h : Held m c (n + 1) s) (r : Fin 8) (j : Fin 5632) :
    oldRows s r j = up (weights m c) (tokens m c (batch ⟨n, hn⟩) (row ⟨n, hn⟩ ⟨504 + r.val, by omega⟩)) j := by
  obtain ⟨hn', s₀, X, -, hX⟩ := h
  exact step_rows m c ⟨n, hn'⟩ s₀ X s hX r j

/-- THE BLOCK point `t` leaves is the sequence's rows. -/
theorem out_rows (t : Fin cfg0.N) (X : Vec Ideal S1x512x1024 .f32) (h : Out m c t X) (r : Fin 512) (l : Fin 1024) :
    X (ix3 0 r l) = seqRow (weights m c) (tokens m c (batch t)) (embs m c (batch t) (row t r)) (row t r) l := by
  obtain ⟨s, s', hs, s₁, f, hst, rfl, -⟩ := h
  rw [out_read, params_eq]
  have hN := points t
  have key : ∀ n q : ℕ, q = 512 * (t.val % 16) + n → n < 514 →
      ext (weights m c) (fun r k => iblk m c 0 t (ix3 0 r k)) (oldRows s₁) (n + 6) = past (weights m c) (tokens m c (batch t)) q := by
    intro n q hq hn
    refine ext_past (weights m c) (tokens m c (batch t)) (t.val % 16) (by omega) _ (fun r => funext fun k => block_token m c t r k)
      (oldRows s₁) (fun hz r j => ?_) (fun hp r j => ?_) n q hq hn
    · exact starts_first _ _ _ _ _ _ _ _ _ _ _ _ _ _ _ _ _ _ _ _ _ _ _ _ _ _ _ _ _ _ _ _ s s₁ ((hcond0_1 t).mpr hz) hst r j
    · rw [starts_later _ _ _ _ _ _ _ _ _ _ _ _ _ _ _ _ _ _ _ _ _ _ _ _ _ _ _ _ _ _ _ _ s s₁ (fun h => by have := (hcond0_1 t).mp h; omega) hst]
      obtain ⟨n', hn'⟩ : ∃ n', t.val = n' + 1 := ⟨t.val - 1, by omega⟩
      rw [hn'] at hs
      rw [held_rows m c n' (by omega) s hs r j]
      have eb : batch ⟨n', by omega⟩ = batch t := Fin.ext (by show n' / 16 = t.val / 16; omega)
      rw [eb]
      exact congrArg (fun q => up (weights m c) (tokens m c (batch t) q) j) (Fin.ext (by
        show 512 * (n' % 16) + (504 + r.val) = 512 * (t.val % 16 - 1) + (504 + r.val); omega))
  unfold blockOf seqRow
  have k0 := key r.val (row t r).val rfl (by omega)
  have k1 := key (r.val + 1) ((row t r).val + 1) rfl (by omega)
  have k2 := key (r.val + 2) ((row t r).val + 2) rfl (by omega)
  have ex : (fun k => iblk m c 0 t (ix3 0 r k)) = tokens m c (batch t) (row t r) := funext fun k => block_token m c t r k
  have ep : (fun k => iblk m c 1 t (ix4 0 0 r k)) = embs m c (batch t) (row t r) := funext fun k => block_emb m c t r k
  rw [← k0, ← k1, ← k2, ← ex, ← ep]
  rfl

/-- The result by index. -/
def ffnResult : S2x8192x1024.Idx → EReal := fun y =>
  seqRow (weights m c) (tokens m c (y 0)) (embs m c (y 0) (y 1)) (y 1) (y 2)

/-- THE RESULT ARRAY after the run. -/
theorem result_of (r : PUnit × MemSt nD τ sig (Elt Ideal)) (h : RDat.FramePost (cfgs 0) (rdats m) (V m) r) :
    r.2.mem ((c : Thread nD τ).loc main_v1) = ffnResult m c := by
  obtain ⟨after, hL, hA⟩ := RDat.FramePost.exists_exact h c
  refine (hA 7).trans (Dat.arrAt_eq_of_covers _ 7 _ (by decide +kernel) fun t hf y => ?_)
  have hX : Out m c t (after 7 t) := Dat.toRRel_leaves (dats m c) (fgt := outOnly) (Rl := Rl m c) (w := 7) rfl (hL 7 t hf)
  blk_simp
  obtain ⟨y0, r, l, rfl⟩ : ∃ (y0 : Fin 1) (r : Fin 512) (l : Fin 1024), y = ix3 y0 r l := ⟨y 0, y 1, y 2, by funext a; fin_cases a <;> rfl⟩
  obtain rfl : y0 = 0 := Subsingleton.elim _ _
  refine (out_rows m c t (after 7 t) hX r l).trans ?_
  have e : (win0_7.blk t).view.emb (ix3 0 r l) = ix3 (batch t) (row t r) l := by
    blk_ext [index7, batch, row, ix3]
  rw [e]
  rfl

/-- THE RUN'S VALUE: every execution ends with the result array at `ffnResult` and the arguments unchanged. -/
theorem ffn_value : θ_run defs (onTc (τ := τ) (main (F := Ideal))) ⟨m, fun _ => 0, ρ⟩ (fun r => ∀ c : Dev nD,
      r.2.mem ((c.tc : Thread nD τ).loc main_v1) = ffnResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨result_of m c r h.1, h.2 c⟩) (θ_run_and (run_post m ρ) (args_unchanged m ρ))

end Cert.Kernel.Gen
-- ==== Proof.Reference.lean ====
module

public import proofs.«01_k».proof.Proof.Gen.ReferenceIdeal.Run
public import proofs.«01_k».proof.Proof.Rows
public import Idealize.ShloMosaic.Lib.Pointwise
public import Idealize.ShloMosaic.Lib.KernelVsHost

@[expose] public section

noncomputable section

namespace Cert.ReferenceIdeal.Value

open Idealize.ShloMosaic Idealize.ShloMosaic.TcCoe Idealize.ShloMosaic.StableHlo Cert.ReferenceIdeal.Gen
open Cert.Ffn

/-!
The reference, element by element: each stage of its @main is the stage of the same name in Rows.lean, on the rows of one
sequence, the projected rows before the sequence's first token being the zeros it pads with.
-/

variable (V : Valuation τ sig (Elt Ideal))

/-- The weights, as the reference's arguments hold them. -/
def weights : Params where
  gf l := V (Proc.devRef .tc main_arg2) (ix2 0 l)
  gp l := V (Proc.devRef .tc main_arg7) (ix2 0 l)
  gl l := V (Proc.devRef .tc main_arg10) (ix1 l)
  cw k j := V (Proc.devRef .tc main_arg4) (ix3 0 k j)
  cb j := V (Proc.devRef .tc main_arg5) (ix2 0 j)
  wu k j := V (Proc.devRef .tc main_arg3) (ix3 0 k j)
  wd k j := V (Proc.devRef .tc main_arg6) (ix3 0 k j)
  wg k j := V (Proc.devRef .tc main_arg8) (ix3 0 k j)
  wj k j := V (Proc.devRef .tc main_arg9) (ix3 0 k j)

/-- The rows of sequence `b`. -/
def tokens (b : Fin 2) (n : Fin 8192) (k : Fin 1024) : EReal := V (Proc.devRef .tc main_arg0) (ix3 b n k)

/-- The embeddings of sequence `b`. -/
def embs (b : Fin 2) (n : Fin 8192) (k : Fin 256) : EReal := V (Proc.devRef .tc main_arg1) (ix4 0 b n k)

/-- The padded projected rows. -/
theorem padded_rows (b : Fin 2) (n : Fin 8194) (j : Fin 5632) :
    res_main_v16 V (ix3 b n j) = past (weights V) (tokens V b) n.val j := by
  pointwise [res_main_v16]
  unfold past
  split_ifs with h
  · rfl
  · exact sitofp_zero (φ := .f32)

/-- The mixed rows. -/
theorem mixed_rows (b : Fin 2) (n : Fin 8192) (j : Fin 5632) :
    res_main_v40 V (ix3 b n j)
      = mix (weights V) (past (weights V) (tokens V b) n.val) (past (weights V) (tokens V b) (n.val + 1))
          (past (weights V) (tokens V b) (n.val + 2)) j := by
  pointwise [res_main_v40]
  rw [padded_rows, padded_rows, padded_rows]
  have e₁ : past (weights V) (tokens V b) (1 + n.val) = past (weights V) (tokens V b) (n.val + 1) := by rw [Nat.add_comm]
  have e₂ : past (weights V) (tokens V b) (2 + n.val) = past (weights V) (tokens V b) (n.val + 2) := by rw [Nat.add_comm]
  exact congrArg₂ _ (congrArg₂ _ rfl (congrArg _ (congrFun e₁ j))) (congrArg _ (congrFun e₂ j))

/-- The first half of the mixed rows. -/
theorem gate_rows (b : Fin 2) (n : Fin 8192) (j : Fin 2816) :
    res_main_v41 V (ix3 b n j) = res_main_v40 V (ix3 b n ⟨j.val, by omega⟩) := by
  pointwise [res_main_v41]

/-- The rows with the gated rows projected down added. -/
theorem mid_rows (b : Fin 2) (n : Fin 8192) (l : Fin 1024) :
    res_main_v59 V (ix3 b n l)
      = mid (weights V) (tokens V b n) (past (weights V) (tokens V b) n.val) (past (weights V) (tokens V b) (n.val + 1))
          (past (weights V) (tokens V b) (n.val + 2)) l := by
  pointwise [res_main_v59]
  unfold mid
  congr 1
  refine Finset.sum_congr rfl fun k _ => ?_
  congr 1
  rw [gate_rows, mixed_rows, mixed_rows]
  unfold act gelu
  generalize mix _ _ _ _ _ = y
  rw [mul_assoc y y y]

/-- The rows with the gated embeddings added. -/
theorem gated_rows (b : Fin 2) (n : Fin 8192) (l : Fin 1024) :
    res_main_v86 V (ix3 b n l)
      = gated (weights V) (fun k => res_main_v59 V (ix3 b n k)) (embs V b n) l := by
  pointwise [res_main_v86]
  rfl

/-- The reference's result. -/
def result : S2x8192x1024.Idx → EReal :=
  mulf (mulf (res_main_v86 V) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (res_main_v86 V) (res_main_v86 V)) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (V (Proc.devRef .tc main_arg10))))

/-- THE REFERENCE, ELEMENT BY ELEMENT. -/
theorem result_rows (b : Fin 2) (n : Fin 8192) (l : Fin 1024) :
    result V (ix3 b n l) = seqRow (weights V) (tokens V b) (embs V b n) n l := by
  pointwise [result]
  simp only [gated_rows]
  simp only [mid_rows]
  rfl

end Cert.ReferenceIdeal.Value

end
-- ==== Proof.Agree.lean ====
module

public import proofs.«01_k».proof.Proof.KernelValue
public import proofs.«01_k».proof.Proof.Reference

@[expose] public section

noncomputable section

namespace Cert.Ffn

open Idealize.ShloMosaic Idealize.ShloMosaic.TcCoe Idealize.SL.Sem

/-!
From equal arguments the reference's result is the kernel's: both are the sequence's rows.
-/

variable (m : (ℓ : Loc Cert.Kernel.nD Cert.Kernel.τ Cert.Kernel.sig) → Buf (Elt Ideal) ℓ)
  (m' : (ℓ : Loc Cert.ReferenceIdeal.nD Cert.ReferenceIdeal.τ Cert.ReferenceIdeal.sig) → Buf (Elt Ideal) ℓ)
  (c : Dev Cert.Kernel.nD)

/-- The arguments agree. -/
structure SameArgs : Prop where
  h0 : m' ((c.tc : Thread Cert.ReferenceIdeal.nD Cert.ReferenceIdeal.τ).loc Cert.ReferenceIdeal.main_arg0) = m ((c.tc : Thread Cert.Kernel.nD Cert.Kernel.τ).loc Cert.Kernel.main_arg0)
  h1 : m' ((c.tc : Thread Cert.ReferenceIdeal.nD Cert.ReferenceIdeal.τ).loc Cert.ReferenceIdeal.main_arg1) = m ((c.tc : Thread Cert.Kernel.nD Cert.Kernel.τ).loc Cert.Kernel.main_arg1)
  h2 : m' ((c.tc : Thread Cert.ReferenceIdeal.nD Cert.ReferenceIdeal.τ).loc Cert.ReferenceIdeal.main_arg2) = m ((c.tc : Thread Cert.Kernel.nD Cert.Kernel.τ).loc Cert.Kernel.main_arg2)
  h3 : m' ((c.tc : Thread Cert.ReferenceIdeal.nD Cert.ReferenceIdeal.τ).loc Cert.ReferenceIdeal.main_arg3) = m ((c.tc : Thread Cert.Kernel.nD Cert.Kernel.τ).loc Cert.Kernel.main_arg3)
  h4 : m' ((c.tc : Thread Cert.ReferenceIdeal.nD Cert.ReferenceIdeal.τ).loc Cert.ReferenceIdeal.main_arg4) = m ((c.tc : Thread Cert.Kernel.nD Cert.Kernel.τ).loc Cert.Kernel.main_arg4)
  h5 : m' ((c.tc : Thread Cert.ReferenceIdeal.nD Cert.ReferenceIdeal.τ).loc Cert.ReferenceIdeal.main_arg5) = m ((c.tc : Thread Cert.Kernel.nD Cert.Kernel.τ).loc Cert.Kernel.main_arg5)
  h6 : m' ((c.tc : Thread Cert.ReferenceIdeal.nD Cert.ReferenceIdeal.τ).loc Cert.ReferenceIdeal.main_arg6) = m ((c.tc : Thread Cert.Kernel.nD Cert.Kernel.τ).loc Cert.Kernel.main_arg6)
  h7 : m' ((c.tc : Thread Cert.ReferenceIdeal.nD Cert.ReferenceIdeal.τ).loc Cert.ReferenceIdeal.main_arg7) = m ((c.tc : Thread Cert.Kernel.nD Cert.Kernel.τ).loc Cert.Kernel.main_arg7)
  h8 : m' ((c.tc : Thread Cert.ReferenceIdeal.nD Cert.ReferenceIdeal.τ).loc Cert.ReferenceIdeal.main_arg8) = m ((c.tc : Thread Cert.Kernel.nD Cert.Kernel.τ).loc Cert.Kernel.main_arg8)
  h9 : m' ((c.tc : Thread Cert.ReferenceIdeal.nD Cert.ReferenceIdeal.τ).loc Cert.ReferenceIdeal.main_arg9) = m ((c.tc : Thread Cert.Kernel.nD Cert.Kernel.τ).loc Cert.Kernel.main_arg9)
  h10 : m' ((c.tc : Thread Cert.ReferenceIdeal.nD Cert.ReferenceIdeal.τ).loc Cert.ReferenceIdeal.main_arg10) = m ((c.tc : Thread Cert.Kernel.nD Cert.Kernel.τ).loc Cert.Kernel.main_arg10)

variable {m m' c}

/-- The weights agree. -/
theorem SameArgs.weights (h : SameArgs m m' c) :
    Cert.ReferenceIdeal.Value.weights (StableHlo.launchContents m' c) = Cert.Kernel.Gen.weights m c := by
  show Params.mk _ _ _ _ _ _ _ _ _ = Params.mk _ _ _ _ _ _ _ _ _
  congr 1
  · exact funext fun l => congrFun h.h2 (ix2 0 l)
  · exact funext fun l => congrFun h.h7 (ix2 0 l)
  · exact funext fun l => congrFun h.h10 (ix1 l)
  · exact funext fun k => funext fun j => congrFun h.h4 (ix3 0 k j)
  · exact funext fun j => congrFun h.h5 (ix2 0 j)
  · exact funext fun k => funext fun j => congrFun h.h3 (ix3 0 k j)
  · exact funext fun k => funext fun j => congrFun h.h6 (ix3 0 k j)
  · exact funext fun k => funext fun j => congrFun h.h8 (ix3 0 k j)
  · exact funext fun k => funext fun j => congrFun h.h9 (ix3 0 k j)

/-- The rows agree. -/
theorem SameArgs.tokens (h : SameArgs m m' c) (b : Fin 2) :
    Cert.ReferenceIdeal.Value.tokens (StableHlo.launchContents m' c) b = Cert.Kernel.Gen.tokens m c b :=
  funext fun n => funext fun k => congrFun h.h0 (ix3 b n k)

/-- The embeddings agree. -/
theorem SameArgs.embs (h : SameArgs m m' c) (b : Fin 2) (n : Fin 8192) :
    Cert.ReferenceIdeal.Value.embs (StableHlo.launchContents m' c) b n = Cert.Kernel.Gen.embs m c b n :=
  funext fun k => congrFun h.h1 (ix4 0 b n k)

/-- THE RESULTS AGREE. -/
theorem SameArgs.result (h : SameArgs m m' c) :
    Cert.ReferenceIdeal.Value.result (StableHlo.launchContents m' c) = Cert.Kernel.Gen.ffnResult m c := by
  funext y
  obtain ⟨b, n, l, rfl⟩ : ∃ (b : Fin 2) (n : Fin 8192) (l : Fin 1024), y = ix3 b n l := ⟨y 0, y 1, y 2, by funext a; fin_cases a <;> rfl⟩
  rw [Cert.ReferenceIdeal.Value.result_rows, h.weights, h.tokens, h.embs]
  rfl

end Cert.Ffn

end
-- ==== Proof.Transport.lean ====
module

public import proofs.«01_k».proof.Proof.KernelValue
public import proofs.«01_k».proof.Proof.Gen.KernelIdeal

@[expose] public section

set_option maxRecDepth 65536

noncomputable section

namespace Cert.Ffn

open Idealize.ShloMosaic Idealize.SL.Sem

/-!
The idealized program is the kernel's own text, no operation rewritten: its table of procedures is the kernel's, and so the
runs of the kernel over the extended reals are its runs.
-/

/-- The body table is the kernel's. -/
theorem bodies_same : Cert.KernelIdeal.defs₀ (F := Ideal) = Cert.Kernel.defs₀ (F := Ideal) := by
  unfold Cert.KernelIdeal.defs₀ Cert.Kernel.defs₀
  refine congrArg Defs.onTc (funext fun l => funext fun a => ?_)
  rcases l with ⟨_ | n, h⟩
  · rfl
  · exact absurd h (by omega)

/-- The procedures are the kernel's. -/
theorem defs_same : Cert.KernelIdeal.defs (F := Ideal) = Cert.Kernel.defs (F := Ideal) :=
  congrArg (Pipeline.defs (Cert.Kernel.pcfgs (F := Ideal))) bodies_same

/-- What every run of the kernel over the extended reals ends with, every run of the idealized program does. -/
theorem run_same (s : MemSt Cert.Kernel.nD Cert.Kernel.τ Cert.Kernel.sig (Elt Ideal))
    (Q : PUnit × MemSt Cert.Kernel.nD Cert.Kernel.τ Cert.Kernel.sig (Elt Ideal) → Prop)
    (h : θ_run (Cert.Kernel.defs (F := Ideal)) (onTc (τ := Cert.Kernel.τ) (Cert.Kernel.main (F := Ideal))) s Q) :
    θ_run (Cert.KernelIdeal.defs (F := Ideal)) (onTc (τ := Cert.KernelIdeal.τ) (Cert.KernelIdeal.main (F := Ideal))) s Q := by
  rw [defs_same]
  exact h

end Cert.Ffn

end
-- ==== Proof.lean ====
module

public import proofs.«01_k».proof.Defs
public import proofs.«01_k».proof.Proof.Agree
public import proofs.«01_k».proof.Proof.Transport
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

/-- The kernel's frame. -/
theorem kernel_frame : Cert.quiescent_Kernel (hKernel := Cert.Kernel.Gen.facts) := fun m g _ =>
  Cert.Kernel.Gen.ffn_frame (F := Bits) m g

/-- The idealized kernel's frame: the same run, over the extended reals. -/
theorem ideal_frame : Cert.quiescent_KernelIdeal (hKernelIdeal := Cert.KernelIdeal.Gen.facts) := fun m g _ =>
  Cert.Ffn.run_same ⟨m, fun _ => 0, g⟩ _ (Cert.Kernel.Gen.ffn_frame (F := Ideal) m g)

/-- The reference's frame. -/
theorem reference_frame : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run (F := Ideal) m g)

/-- The kernel's result is the reference's. -/
theorem values_agree : Cert.algebraic_KernelIdeal_ReferenceIdeal (hKernelIdeal := Cert.KernelIdeal.Gen.facts)
    (hReferenceIdeal := Cert.ReferenceIdeal.Gen.facts) := fun m g m' g' _ hargs => by
  refine ⟨fun c => Cert.Kernel.Gen.ffnResult m c,
    Cert.Ffn.run_same ⟨m, fun _ => 0, g⟩ _ (Cert.Kernel.Gen.ffn_value m g),
    (θ_run _ _ _).mono (fun r h c => ⟨(h c).1.trans ?_, (h c).2⟩) (Cert.ReferenceIdeal.Value.run (F := Ideal) m' g')⟩
  obtain ⟨h0, h1, h2, h3, h4, h5, h6, h7, h8, h9, h10⟩ := hargs c
  exact Cert.Ffn.SameArgs.result (m := m) (m' := m') (c := c) ⟨h0, h1, h2, h3, h4, h5, h6, h7, h8, h9, h10⟩

theorem claim : Cert.Claim := ⟨Cert.Kernel.Gen.facts, Cert.KernelIdeal.Gen.facts, Cert.ReferenceIdeal.Gen.facts,
  kernel_frame, ideal_frame, reference_frame, trivial, values_agree⟩

end Cert.Proof

end
